-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x1024 : Shape := ⟨3, ![128, 1, 1024]⟩
abbrev S128x1x4x64 : Shape := ⟨4, ![128, 1, 4, 64]⟩
abbrev S128x4096x4x64 : Shape := ⟨4, ![128, 4096, 4, 64]⟩
abbrev S128x4096x4 : Shape := ⟨3, ![128, 4096, 4]⟩
abbrev S128x16x64 : Shape := ⟨3, ![128, 16, 64]⟩
abbrev S128x4x64 : Shape := ⟨3, ![128, 4, 64]⟩
abbrev S4x64x128 : Shape := ⟨3, ![4, 64, 128]⟩
abbrev S128x4x64x4096 : Shape := ⟨4, ![128, 4, 64, 4096]⟩
abbrev S128x4x4096 : Shape := ⟨3, ![128, 4, 4096]⟩
abbrev S4x128 : Shape := ⟨2, ![4, 128]⟩
abbrev S4x16x64 : Shape := ⟨3, ![4, 16, 64]⟩
abbrev S4x4x64x4096 : Shape := ⟨4, ![4, 4, 64, 4096]⟩
abbrev S4x4x4096 : Shape := ⟨3, ![4, 4, 4096]⟩
abbrev S256x128 : Shape := ⟨2, ![256, 128]⟩
abbrev S4x1x128 : Shape := ⟨3, ![4, 1, 128]⟩
abbrev S64x64 : Shape := ⟨2, ![64, 64]⟩
abbrev S64x256 : Shape := ⟨2, ![64, 256]⟩
abbrev S16x64 : Shape := ⟨2, ![16, 64]⟩
abbrev S16x128 : Shape := ⟨2, ![16, 128]⟩
abbrev S16x256 : Shape := ⟨2, ![16, 256]⟩
abbrev S1x4x64x4096 : Shape := ⟨4, ![1, 4, 64, 4096]⟩
abbrev S4x64x4096 : Shape := ⟨3, ![4, 64, 4096]⟩
abbrev S1x4x4096 : Shape := ⟨3, ![1, 4, 4096]⟩
abbrev S4x4096 : Shape := ⟨2, ![4, 4096]⟩
abbrev S4x1x4096 : Shape := ⟨3, ![4, 1, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩
abbrev S256x16 : Shape := ⟨2, ![256, 16]⟩
abbrev S1x16x64 : Shape := ⟨3, ![1, 16, 64]⟩
abbrev S128x4 : Shape := ⟨2, ![128, 4]⟩
abbrev S128x1x4 : Shape := ⟨3, ![128, 1, 4]⟩

abbrev nBuf : Space → Nat
  | .hbm => 30
  | .vmem => 20
  | .smem => 0
  | _ => 0

abbrev bufTy : (tb : Table) → Fin (tcTables nBuf tb) → BufTy
  | .hbm, ⟨0, _⟩ => ⟨S128x1x1024, .bf16⟩
  | .hbm, ⟨1, _⟩ => ⟨S128x1x4x64, .bf16⟩
  | .hbm, ⟨2, _⟩ => ⟨S128x1x4x64, .bf16⟩
  | .hbm, ⟨3, _⟩ => ⟨S128x4096x4x64, .i8⟩
  | .hbm, ⟨4, _⟩ => ⟨S128x4096x4, .f32⟩
  | .hbm, ⟨5, _⟩ => ⟨S128x4096x4x64, .i8⟩
  | .hbm, ⟨6, _⟩ => ⟨S128x4096x4, .f32⟩
  | .hbm, ⟨7, _⟩ => ⟨S128x16x64, .bf16⟩
  | .hbm, ⟨8, _⟩ => ⟨S128x4x64, .bf16⟩
  | .hbm, ⟨9, _⟩ => ⟨S4x64x128, .bf16⟩
  | .hbm, ⟨10, _⟩ => ⟨S128x4x64, .bf16⟩
  | .hbm, ⟨11, _⟩ => ⟨S4x64x128, .bf16⟩
  | .hbm, ⟨12, _⟩ => ⟨S128x4x64x4096, .i8⟩
  | .hbm, ⟨13, _⟩ => ⟨S128x4x4096, .f32⟩
  | .hbm, ⟨14, _⟩ => ⟨S128x4x64x4096, .i8⟩
  | .hbm, ⟨15, _⟩ => ⟨S128x4x4096, .f32⟩
  | .hbm, ⟨16, _⟩ => ⟨S128x16x64, .bf16⟩
  | .hbm, ⟨17, _⟩ => ⟨S4x64x128, .i8⟩
  | .hbm, ⟨18, _⟩ => ⟨S4x128, .f32⟩
  | .hbm, ⟨19, _⟩ => ⟨S4x64x128, .i8⟩
  | .hbm, ⟨20, _⟩ => ⟨S4x128, .f32⟩
  | .hbm, ⟨21, _⟩ => ⟨S128x1x1024, .bf16⟩
  | .hbm, ⟨22, _⟩ => ⟨S128x4x64, .i8⟩
  | .hbm, ⟨23, _⟩ => ⟨S128x1x4x64, .i8⟩
  | .hbm, ⟨24, _⟩ => ⟨S128x4, .f32⟩
  | .hbm, ⟨25, _⟩ => ⟨S128x1x4, .f32⟩
  | .hbm, ⟨26, _⟩ => ⟨S128x4x64, .i8⟩
  | .hbm, ⟨27, _⟩ => ⟨S128x1x4x64, .i8⟩
  | .hbm, ⟨28, _⟩ => ⟨S128x4, .f32⟩
  | .hbm, ⟨29, _⟩ => ⟨S128x1x4, .f32⟩
  | .local _ .vmem, ⟨0, _⟩ => ⟨S4x16x64, .bf16⟩
  | .local _ .vmem, ⟨1, _⟩ => ⟨S4x16x64, .bf16⟩
  | .local _ .vmem, ⟨2, _⟩ => ⟨S4x64x128, .bf16⟩
  | .local _ .vmem, ⟨3, _⟩ => ⟨S4x64x128, .bf16⟩
  | .local _ .vmem, ⟨4, _⟩ => ⟨S4x4x64x4096, .i8⟩
  | .local _ .vmem, ⟨5, _⟩ => ⟨S4x4x64x4096, .i8⟩
  | .local _ .vmem, ⟨6, _⟩ => ⟨S4x4x4096, .f32⟩
  | .local _ .vmem, ⟨7, _⟩ => ⟨S4x4x4096, .f32⟩
  | .local _ .vmem, ⟨8, _⟩ => ⟨S4x4x64x4096, .i8⟩
  | .local _ .vmem, ⟨9, _⟩ => ⟨S4x4x64x4096, .i8⟩
  | .local _ .vmem, ⟨10, _⟩ => ⟨S4x4x4096, .f32⟩
  | .local _ .vmem, ⟨11, _⟩ => ⟨S4x4x4096, .f32⟩
  | .local _ .vmem, ⟨12, _⟩ => ⟨S4x16x64, .bf16⟩
  | .local _ .vmem, ⟨13, _⟩ => ⟨S4x16x64, .bf16⟩
  | .local _ .vmem, ⟨14, _⟩ => ⟨S4x64x128, .i8⟩
  | .local _ .vmem, ⟨15, _⟩ => ⟨S4x128, .f32⟩
  | .local _ .vmem, ⟨16, _⟩ => ⟨S4x64x128, .i8⟩
  | .local _ .vmem, ⟨17, _⟩ => ⟨S4x128, .f32⟩
  | .local _ .vmem, ⟨18, _⟩ => ⟨S256x128, .bf16⟩
  | .local _ .vmem, ⟨19, _⟩ => ⟨S256x128, .bf16⟩
  | _, _ => ⟨S128x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x4x64x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x64x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x16x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x64x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S128x1x1024 : Shape := ⟨3, ![128, 1, 1024]⟩
abbrev S128x1x4x64 : Shape := ⟨4, ![128, 1, 4, 64]⟩
abbrev S128x4096x4x64 : Shape := ⟨4, ![128, 4096, 4, 64]⟩
abbrev S128x4096x4 : Shape := ⟨3, ![128, 4096, 4]⟩
abbrev S512x4x64 : Shape := ⟨3, ![512, 4, 64]⟩
abbrev S512x64 : Shape := ⟨2, ![512, 64]⟩
abbrev S128x4x4096x64 : Shape := ⟨4, ![128, 4, 4096, 64]⟩
abbrev S512x4096x64 : Shape := ⟨3, ![512, 4096, 64]⟩
abbrev S128x4x4096 : Shape := ⟨3, ![128, 4, 4096]⟩
abbrev S512x4096 : Shape := ⟨2, ![512, 4096]⟩
abbrev S128x1x4 : Shape := ⟨3, ![128, 1, 4]⟩
abbrev S512 : Shape := ⟨1, ![512]⟩
abbrev S512x1 : Shape := ⟨2, ![512, 1]⟩
abbrev S512x4096x1 : Shape := ⟨3, ![512, 4096, 1]⟩
abbrev S512x1x64 : Shape := ⟨3, ![512, 1, 64]⟩
abbrev S512x4097x64 : Shape := ⟨3, ![512, 4097, 64]⟩
abbrev S512x4x4097 : Shape := ⟨3, ![512, 4, 4097]⟩
abbrev S512x4 : Shape := ⟨2, ![512, 4]⟩
abbrev S512x4x1 : Shape := ⟨3, ![512, 4, 1]⟩

abbrev nBuf : Space → Nat
  | .hbm => 23
  | .vmem => 12
  | .smem => 0
  | _ => 0

abbrev bufTy : (tb : Table) → Fin (tcTables nBuf tb) → BufTy
  | .hbm, ⟨0, _⟩ => ⟨S128x1x1024, .bf16⟩
  | .hbm, ⟨1, _⟩ => ⟨S128x1x4x64, .bf16⟩
  | .hbm, ⟨2, _⟩ => ⟨S128x1x4x64, .bf16⟩
  | .hbm, ⟨3, _⟩ => ⟨S128x4096x4x64, .i8⟩
  | .hbm, ⟨4, _⟩ => ⟨S128x4096x4, .f32⟩
  | .hbm, ⟨5, _⟩ => ⟨S128x4096x4x64, .i8⟩
  | .hbm, ⟨6, _⟩ => ⟨S128x4096x4, .f32⟩
  | .hbm, ⟨7, _⟩ => ⟨S512x4x64, .bf16⟩
  | .hbm, ⟨8, _⟩ => ⟨S512x64, .bf16⟩
  | .hbm, ⟨9, _⟩ => ⟨S512x64, .bf16⟩
  | .hbm, ⟨10, _⟩ => ⟨S128x4x4096x64, .i8⟩
  | .hbm, ⟨11, _⟩ => ⟨S512x4096x64, .i8⟩
  | .hbm, ⟨12, _⟩ => ⟨S128x4x4096, .f32⟩
  | .hbm, ⟨13, _⟩ => ⟨S512x4096, .f32⟩
  | .hbm, ⟨14, _⟩ => ⟨S128x4x4096x64, .i8⟩
  | .hbm, ⟨15, _⟩ => ⟨S512x4096x64, .i8⟩
  | .hbm, ⟨16, _⟩ => ⟨S128x4x4096, .f32⟩
  | .hbm, ⟨17, _⟩ => ⟨S512x4096, .f32⟩
  | .hbm, ⟨18, _⟩ => ⟨S128x1x1024, .bf16⟩
  | .hbm, ⟨19, _⟩ => ⟨S128x1x4x64, .i8⟩
  | .hbm, ⟨20, _⟩ => ⟨S128x1x4, .f32⟩
  | .hbm, ⟨21, _⟩ => ⟨S128x1x4x64, .i8⟩
  | .hbm, ⟨22, _⟩ => ⟨S128x1x4, .f32⟩
  | .local _ .vmem, ⟨0, _⟩ => ⟨S512x4x64, .bf16⟩
  | .local _ .vmem, ⟨1, _⟩ => ⟨S512x64, .bf16⟩
  | .local _ .vmem, ⟨2, _⟩ => ⟨S512x64, .bf16⟩
  | .local _ .vmem, ⟨3, _⟩ => ⟨S512x4096x64, .i8⟩
  | .local _ .vmem, ⟨4, _⟩ => ⟨S512x4096, .f32⟩
  | .local _ .vmem, ⟨5, _⟩ => ⟨S512x4096x64, .i8⟩
  | .local _ .vmem, ⟨6, _⟩ => ⟨S512x4096, .f32⟩
  | .local _ .vmem, ⟨7, _⟩ => ⟨S128x1x1024, .bf16⟩
  | .local _ .vmem, ⟨8, _⟩ => ⟨S128x1x4x64, .i8⟩
  | .local _ .vmem, ⟨9, _⟩ => ⟨S128x1x4, .f32⟩
  | .local _ .vmem, ⟨10, _⟩ => ⟨S128x1x4x64, .i8⟩
  | .local _ .vmem, ⟨11, _⟩ => ⟨S128x1x4, .f32⟩
  | _, _ => ⟨S128x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S512x4x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x4096x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x4096x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1x4x64 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1x4x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.Points.lean ====
/- What the kernel's grid points have in common: the condition of its `pl.when`, at which points each output is
   stored, what is in the buffers of the outputs 8 to 11 before a point, and the buffers the body works on. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 32 points. -/
theorem points : cfg0.N = 32 := N_0

/-- The condition of the kernel's `pl.when`, from the grid coordinates. -/
abbrev isFirst (i : grid0.Coords) : Prop := k0_cond1 i = 1#1

/-- It holds at the first point only. -/
theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    rw [show t.val = 0 ↔ t.val % 32 = 0 by omega]
    simp only [isFirst, k0_cond1, e0]
    word_cmp
   : ∀ t : Fin grid0.N, isFirst (grid0.coords t) ↔ t.val = 0)

/-! ## Where the outputs 8 to 11 are idle

They are stored at the first point only, and written back at the last. -/

/-- The first point stores the outputs 8 to 11. -/
theorem live_first : ∀ t : Fin cfg0.N, isFirst (grid0.coords t) → cfg0.idle 8 (grid0.coords t) = false
    ∧ cfg0.idle 9 (grid0.coords t) = false ∧ cfg0.idle 10 (grid0.coords t) = false ∧ cfg0.idle 11 (grid0.coords t) = false := by
  decide +kernel

/-- A later point stores none of them. -/
theorem idle_later : ∀ t : Fin cfg0.N, ¬isFirst (grid0.coords t) → cfg0.idle 8 (grid0.coords t) = true
    ∧ cfg0.idle 9 (grid0.coords t) = true ∧ cfg0.idle 10 (grid0.coords t) = true ∧ cfg0.idle 11 (grid0.coords t) = true := by
  decide +kernel

/-- Whether the buffer of such an output holds nothing of the body's before a point: at the start, and after the last point. -/
def freshTab : ℕ → Bool
  | 0 => true
  | n + 1 => (0x80000000 : ℕ).testBit n

/-- The table follows the configuration's own step. -/
theorem freshTab_step : ∀ w : Fin cfg0.W, 8 ≤ w.val → ∀ t : Fin cfg0.N,
    freshTab (t.val + 1) = ((cfg0.win w).flush t || (cfg0.idle w (cfg0.grid.coords t) && freshTab t.val)) := by decide +kernel

/-- Before a later point the buffer of such an output is not fresh. -/
theorem notFresh (w : Fin cfg0.W) (hw : 8 ≤ w.val) (t : Fin cfg0.N) (ht : t.val ≠ 0) : cfg0.fresh w t.val = false := by
  rw [Pipeline.Cfg.fresh_tab cfg0 w freshTab rfl (freshTab_step w hw) t.val (Nat.le_of_lt t.isLt)]
  have hN : t.val < 32 := Nat.lt_of_lt_of_eq t.isLt N_0
  revert ht
  generalize t.val = n at hN ⊢
  revert n; decide +kernel

/-! ## The buffers the body works on -/

/-- The staging buffer of window 0 at point `t`, and its wholeness. -/
abbrev ms0_0 (t : Fin cfg0.N) : Memref sig .tc .vmem S4x16x64 .bf16 := win0_0.stage (cfg0.slots t 0)
abbrev hs0_0 (t : Fin cfg0.N) : (ms0_0 t).IsWhole := hstage0_0 ((cfg0.slots t 0).cast nbuf0_0)
/-- The staging buffer of window 1 at point `t`, and its wholeness. -/
abbrev ms0_1 (t : Fin cfg0.N) : Memref sig .tc .vmem S4x64x128 .bf16 := win0_1.stage (cfg0.slots t 1)
abbrev hs0_1 (t : Fin cfg0.N) : (ms0_1 t).IsWhole := hstage0_1 ((cfg0.slots t 1).cast nbuf0_1)
/-- The staging buffer of window 2 at point `t`, and its wholeness. -/
abbrev ms0_2 (t : Fin cfg0.N) : Memref sig .tc .vmem S4x64x128 .bf16 := win0_2.stage (cfg0.slots t 2)
abbrev hs0_2 (t : Fin cfg0.N) : (ms0_2 t).IsWhole := hstage0_2 ((cfg0.slots t 2).cast nbuf0_2)
/-- The staging buffer of window 3 at point `t`, and its wholeness. -/
abbrev ms0_3 (t : Fin cfg0.N) : Memref sig .tc .vmem S4x4x64x4096 .i8 := win0_3.stage (cfg0.slots t 3)
abbrev hs0_3 (t : Fin cfg0.N) : (ms0_3 t).IsWhole := hstage0_3 ((cfg0.slots t 3).cast nbuf0_3)
/-- The staging buffer of window 4 at point `t`, and its wholeness. -/
abbrev ms0_4 (t : Fin cfg0.N) : Memref sig .tc .vmem S4x4x4096 .f32 := win0_4.stage (cfg0.slots t 4)
abbrev hs0_4 (t : Fin cfg0.N) : (ms0_4 t).IsWhole := hstage0_4 ((cfg0.slots t 4).cast nbuf0_4)
/-- The staging buffer of window 5 at point `t`, and its wholeness. -/
abbrev ms0_5 (t : Fin cfg0.N) : Memref sig .tc .vmem S4x4x64x4096 .i8 := win0_5.stage (cfg0.slots t 5)
abbrev hs0_5 (t : Fin cfg0.N) : (ms0_5 t).IsWhole := hstage0_5 ((cfg0.slots t 5).cast nbuf0_5)
/-- The staging buffer of window 6 at point `t`, and its wholeness. -/
abbrev ms0_6 (t : Fin cfg0.N) : Memref sig .tc .vmem S4x4x4096 .f32 := win0_6.stage (cfg0.slots t 6)
abbrev hs0_6 (t : Fin cfg0.N) : (ms0_6 t).IsWhole := hstage0_6 ((cfg0.slots t 6).cast nbuf0_6)
/-- The staging buffer of window 7 at point `t`, and its wholeness. -/
abbrev ms0_7 (t : Fin cfg0.N) : Memref sig .tc .vmem S4x16x64 .bf16 := win0_7.stage (cfg0.slots t 7)
abbrev hs0_7 (t : Fin cfg0.N) : (ms0_7 t).IsWhole := hstage0_7 ((cfg0.slots t 7).cast nbuf0_7)
/-- The staging buffer of window 8 at point `t`, and its wholeness. -/
abbrev ms0_8 (t : Fin cfg0.N) : Memref sig .tc .vmem S4x64x128 .i8 := win0_8.stage (cfg0.slots t 8)
abbrev hs0_8 (t : Fin cfg0.N) : (ms0_8 t).IsWhole := hstage0_8 ((cfg0.slots t 8).cast nbuf0_8)
/-- The staging buffer of window 9 at point `t`, and its wholeness. -/
abbrev ms0_9 (t : Fin cfg0.N) : Memref sig .tc .vmem S4x128 .f32 := win0_9.stage (cfg0.slots t 9)
abbrev hs0_9 (t : Fin cfg0.N) : (ms0_9 t).IsWhole := hstage0_9 ((cfg0.slots t 9).cast nbuf0_9)
/-- The staging buffer of window 10 at point `t`, and its wholeness. -/
abbrev ms0_10 (t : Fin cfg0.N) : Memref sig .tc .vmem S4x64x128 .i8 := win0_10.stage (cfg0.slots t 10)
abbrev hs0_10 (t : Fin cfg0.N) : (ms0_10 t).IsWhole := hstage0_10 ((cfg0.slots t 10).cast nbuf0_10)
/-- The staging buffer of window 11 at point `t`, and its wholeness. -/
abbrev ms0_11 (t : Fin cfg0.N) : Memref sig .tc .vmem S4x128 .f32 := win0_11.stage (cfg0.slots t 11)
abbrev hs0_11 (t : Fin cfg0.N) : (ms0_11 t).IsWhole := hstage0_11 ((cfg0.slots t 11).cast nbuf0_11)
/-- The two scratch arrays: the new keys and the new values, dequantised and laid side by side. -/
abbrev scM0_0 : Memref sig .tc .vmem S256x128 .bf16 := Memref.whole cc0_scratch0
abbrev scM0_1 : Memref sig .tc .vmem S256x128 .bf16 := Memref.whole cc0_scratch1

/-- One staging buffer of output window 7, through which its contents are stated. -/
abbrev VO0_7 : View sig .tc .vmem S4x16x64 .bf16 := (Memref.whole cc0_stg7_0 : Memref sig .tc .vmem S4x16x64 .bf16).view

/-- The invariant before the first point: both scratch arrays at anything, and the generator register at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Body.RunFirst.lean ====
/- The run of the kernel body at the first grid point, which quantises the new tokens, stores their codes and scales, fills
   the two scratch arrays, and attends. -/
module

public import proofs.«01_k».proof.Proof.Body.Points

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg1 : Memref sig .tc .vmem S4x16x64 .bf16) (harg1 : arg1.IsWhole)
  (arg2 : Memref sig .tc .vmem S4x64x128 .bf16) (harg2 : arg2.IsWhole)
  (arg3 : Memref sig .tc .vmem S4x64x128 .bf16) (harg3 : arg3.IsWhole)
  (arg4 : Memref sig .tc .vmem S4x4x64x4096 .i8) (harg4 : arg4.IsWhole)
  (arg5 : Memref sig .tc .vmem S4x4x4096 .f32) (harg5 : arg5.IsWhole)
  (arg6 : Memref sig .tc .vmem S4x4x64x4096 .i8) (harg6 : arg6.IsWhole)
  (arg7 : Memref sig .tc .vmem S4x4x4096 .f32) (harg7 : arg7.IsWhole)
  (arg8 : Memref sig .tc .vmem S4x16x64 .bf16) (harg8 : arg8.IsWhole)
  (arg9 : Memref sig .tc .vmem S4x64x128 .i8) (harg9 : arg9.IsWhole)
  (arg10 : Memref sig .tc .vmem S4x128 .f32) (harg10 : arg10.IsWhole)
  (arg11 : Memref sig .tc .vmem S4x64x128 .i8) (harg11 : arg11.IsWhole)
  (arg12 : Memref sig .tc .vmem S4x128 .f32) (harg12 : arg12.IsWhole)
  (arg13 : Memref sig .tc .vmem S256x128 .bf16) (harg13 : arg13.IsWhole)
  (arg14 : Memref sig .tc .vmem S256x128 .bf16) (harg14 : arg14.IsWhole)
variable (x0 : Vec F S4x16x64 .bf16) (x1 : Vec F S4x64x128 .bf16) (x2 : Vec F S4x64x128 .bf16) (x3 : Vec F S4x4x64x4096 .i8) (x4 : Vec F S4x4x4096 .f32) (x5 : Vec F S4x4x64x4096 .i8) (x6 : Vec F S4x4x4096 .f32)

-- the term the run builds is large
set_option maxHeartbeats 1000000 in
/-- The body at the first point, on any whole buffers, the inputs' at their contents and the others' at anything: the
    pieces its stores leave in each output's buffer and in each scratch array, last first, with the proof that it runs
    to the end leaving the inputs' buffers as they were and those pieces written. -/
noncomputable def runFirst (hc0 : isFirst i) :
    Σ' (L7 : List (View.Piece (Elt F) S4x16x64 .bf16)), Σ' (L8 : List (View.Piece (Elt F) S4x64x128 .i8)), Σ' (L9 : List (View.Piece (Elt F) S4x128 .f32)), Σ' (L10 : List (View.Piece (Elt F) S4x64x128 .i8)), Σ' (L11 : List (View.Piece (Elt F) S4x128 .f32)), Σ' (LS0 : List (View.Piece (Elt F) S256x128 .bf16)), { LS1 : List (View.Piece (Elt F) S256x128 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ (∃ f, arg11.view.loc (c : Thread nD τ) ↦[arg11.view.set]{fullShare} arg11.view.writes (Elt F) f L10)
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)) -∗ K ⟨⟩))
          ⊢ wp frame (wpE (defs₀ (F := F)) Variants.none c none) E (cc0_gqa_decode_int8 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0_gqa_decode_int8_eq_skeleton]; unfold cc0_gqa_decode_int8_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    iexists _; iexact HS1

end Cert.KernelIdeal.Body

end
-- ==== Proof.Body.RunLater.lean ====
/- The run of the kernel body at a later grid point, which only attends. -/
module

public import proofs.«01_k».proof.Proof.Body.RunFirst

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg1 : Memref sig .tc .vmem S4x16x64 .bf16) (harg1 : arg1.IsWhole)
  (arg2 : Memref sig .tc .vmem S4x64x128 .bf16) (harg2 : arg2.IsWhole)
  (arg3 : Memref sig .tc .vmem S4x64x128 .bf16) (harg3 : arg3.IsWhole)
  (arg4 : Memref sig .tc .vmem S4x4x64x4096 .i8) (harg4 : arg4.IsWhole)
  (arg5 : Memref sig .tc .vmem S4x4x4096 .f32) (harg5 : arg5.IsWhole)
  (arg6 : Memref sig .tc .vmem S4x4x64x4096 .i8) (harg6 : arg6.IsWhole)
  (arg7 : Memref sig .tc .vmem S4x4x4096 .f32) (harg7 : arg7.IsWhole)
  (arg8 : Memref sig .tc .vmem S4x16x64 .bf16) (harg8 : arg8.IsWhole)
  (arg9 : Memref sig .tc .vmem S4x64x128 .i8) (harg9 : arg9.IsWhole)
  (arg10 : Memref sig .tc .vmem S4x128 .f32) (harg10 : arg10.IsWhole)
  (arg11 : Memref sig .tc .vmem S4x64x128 .i8) (harg11 : arg11.IsWhole)
  (arg12 : Memref sig .tc .vmem S4x128 .f32) (harg12 : arg12.IsWhole)
  (arg13 : Memref sig .tc .vmem S256x128 .bf16) (harg13 : arg13.IsWhole)
  (arg14 : Memref sig .tc .vmem S256x128 .bf16) (harg14 : arg14.IsWhole)
variable (x0 : Vec F S4x16x64 .bf16) (x1 : Vec F S4x64x128 .bf16) (x2 : Vec F S4x64x128 .bf16) (x3 : Vec F S4x4x64x4096 .i8) (x4 : Vec F S4x4x4096 .f32) (x5 : Vec F S4x4x64x4096 .i8) (x6 : Vec F S4x4x4096 .f32)

-- the term the run builds is large
set_option maxHeartbeats 1000000 in
/-- The body at a later point, on any whole buffers, the inputs', those of the outputs 8 to 11 and the scratch arrays at
    their contents: the pieces its stores leave in the buffer of the attention output, last first, with the proof that it
    runs to the end leaving everything else as it was. -/
noncomputable def runLater (hc0 : ¬isFirst i)
    (xo8 : Vec F S4x64x128 .i8) (xo9 : Vec F S4x128 .f32) (xo10 : Vec F S4x64x128 .i8) (xo11 : Vec F S4x128 .f32) (xs0 xs1 : Vec F S256x128 .bf16) :
    { L7 : List (View.Piece (Elt F) S4x16x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ owns (c : Thread nD τ) arg9 fullShare xo8
            ∗ owns (c : Thread nD τ) arg10 fullShare xo9
            ∗ owns (c : Thread nD τ) arg11 fullShare xo10
            ∗ owns (c : Thread nD τ) arg12 fullShare xo11
            ∗ owns (c : Thread nD τ) arg13 fullShare xs0
            ∗ owns (c : Thread nD τ) arg14 fullShare xs1
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ owns (c : Thread nD τ) arg9 fullShare xo8
            ∗ owns (c : Thread nD τ) arg10 fullShare xo9
            ∗ owns (c : Thread nD τ) arg11 fullShare xo10
            ∗ owns (c : Thread nD τ) arg12 fullShare xo11
            ∗ owns (c : Thread nD τ) arg13 fullShare xs0
            ∗ owns (c : Thread nD τ) arg14 fullShare xs1) -∗ K ⟨⟩))
          ⊢ wp frame (wpE (defs₀ (F := F)) Variants.none c none) E (cc0_gqa_decode_int8 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_gqa_decode_int8_eq_skeleton]; unfold cc0_gqa_decode_int8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hf11; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg13.read_unread _
      iexact HS0
    iexists _; isplitr; · ipureintro; exact harg14.read_unread _
    iexact HS1

end Cert.KernelIdeal.Body

end
-- ==== Proof.Body.Run.lean ====
/- The run of the whole kernel: what the outputs' buffers and the scratch arrays hold after each grid point, the proof data,
   the obligation of the body, the run and the frame. -/
module

public import proofs.«01_k».proof.Proof.Body.RunLater
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first point. -/
def first : Fin cfg0.N := ⟨0, by rw [points]; omega⟩

theorem first_isFirst : isFirst (grid0.coords first) := (isFirst_iff first).mpr rfl

theorem eq_first {t : Fin cfg0.N} (h : isFirst (grid0.coords t)) : t = first := Fin.ext ((isFirst_iff t).mp h)

/-- The run of the body at the first point, on that point's buffers and blocks. -/
abbrev firstRun (c : Dev nD) (t : Fin cfg0.N) (h : isFirst (grid0.coords t)) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) h

/-- What a list of pieces that covers a buffer leaves in it. -/
abbrev leaves {S : Shape} {e : EltTy} (v : View sig .tc .vmem S e) (L : List (View.Piece (Elt F) S e)) : Vec F S e :=
  v.read (Elt F) (v.writes (Elt F) v.junk L)

/-- What the first point leaves in the buffers of the outputs 8 to 11 and in the scratch arrays; they hold it from then on. -/
def keyCodes (c : Dev nD) : Vec F S4x64x128 .i8 := leaves (ms0_8 first).view (firstRun m c first first_isFirst).2.1
def keyScales (c : Dev nD) : Vec F S4x128 .f32 := leaves (ms0_9 first).view (firstRun m c first first_isFirst).2.2.1
def valCodes (c : Dev nD) : Vec F S4x64x128 .i8 := leaves (ms0_10 first).view (firstRun m c first first_isFirst).2.2.2.1
def valScales (c : Dev nD) : Vec F S4x128 .f32 := leaves (ms0_11 first).view (firstRun m c first first_isFirst).2.2.2.2.1
def newKeys (c : Dev nD) : Vec F S256x128 .bf16 := leaves scM0_0.view (firstRun m c first first_isFirst).2.2.2.2.2.1
def newVals (c : Dev nD) : Vec F S256x128 .bf16 := leaves scM0_1.view (firstRun m c first first_isFirst).2.2.2.2.2.2.1

/-- The run of the body at a later point, on that point's buffers and blocks. -/
abbrev laterRun (c : Dev nD) (t : Fin cfg0.N) (h : ¬isFirst (grid0.coords t)) :=
  runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) h
    (keyCodes m c) (keyScales m c) (valCodes m c) (valScales m c) (newKeys m c) (newVals m c)

open Classical in
/-- What a point leaves in the buffer of the attention output. -/
def attended (c : Dev nD) (t : Fin cfg0.N) : Vec F S4x16x64 .bf16 :=
  if h : isFirst (grid0.coords t) then leaves VO0_7 (firstRun m c t h).1 else leaves VO0_7 (laterRun m c t h).1

theorem attended_first (c : Dev nD) (t : Fin cfg0.N) (h : isFirst (grid0.coords t)) :
    attended m c t = leaves VO0_7 (firstRun m c t h).1 := dif_pos h

theorem attended_later (c : Dev nD) (t : Fin cfg0.N) (h : ¬isFirst (grid0.coords t)) :
    attended m c t = leaves VO0_7 (laterRun m c t h).1 := dif_neg h

/-- The invariant before position `n`: at the start both scratch arrays at anything, afterwards at the new tokens; and the
    generator register at anything. -/
def PhiS (c : Dev nD) : ℕ → sProp 𝕄
  | 0 => Pipeline.ΦA spec0 c
  | _ + 1 => iprop(iprop(owns (c : Thread nD τ) scM0_0 fullShare (newKeys m c) ∗ owns (c : Thread nD τ) scM0_1 fullShare (newVals m c)) ∗ (∃ r, prngReg c r))

theorem PhiS_pos (c : Dev nD) (n : ℕ) (hz : n ≠ 0) :
    PhiS m c n = iprop(iprop(owns (c : Thread nD τ) scM0_0 fullShare (newKeys m c) ∗ owns (c : Thread nD τ) scM0_1 fullShare (newVals m c)) ∗ (∃ r, prngReg c r)) := by
  cases n with
  | zero => exact absurd rfl hz
  | succ n => rfl

/-- The proof data of the one pipeline on core `c`: the arrays as the region finds them; after a point the inputs' buffers at
    their blocks and the outputs' as above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => attended m c t
    | ⟨8, _⟩ => keyCodes m c
    | ⟨9, _⟩ => keyScales m c
    | ⟨10, _⟩ => valCodes m c
    | ⟨11, _⟩ => valScales m c
  Φ t := PhiS m c t.val
  q _ := fullShare
  owed _ := 0

/-- The arrays are the contents the region finds. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = attended m c t := by dsimp only [dats]
theorem after0_8 (c : Dev nD) (t : Fin cfg0.N) : (dats m 0 c).after 8 t = keyCodes m c := by dsimp only [dats]
theorem after0_9 (c : Dev nD) (t : Fin cfg0.N) : (dats m 0 c).after 9 t = keyScales m c := by dsimp only [dats]
theorem after0_10 (c : Dev nD) (t : Fin cfg0.N) : (dats m 0 c).after 10 t = valCodes m c := by dsimp only [dats]
theorem after0_11 (c : Dev nD) (t : Fin cfg0.N) : (dats m 0 c).after 11 t = valScales m c := by dsimp only [dats]

/-- An input's buffer holds its block before every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Before a later point the buffer of an output 8 to 11 holds what the first point left. -/
theorem before0_8 (c : Dev nD) (t : Fin cfg0.N) (ht : t.val ≠ 0) (d) : (dats m 0 c).before 8 t d = keyCodes m c := by
  rw [Dat.before_out_traj _ 8 rfl (fun _ _ => rfl) (fun s _ _ _ => by rw [after0_8, after0_8]) t.val t rfl d,
    if_neg (by rw [notFresh 8 (by decide) t ht]; exact Bool.false_ne_true)]
  dsimp only [dats]
theorem before0_9 (c : Dev nD) (t : Fin cfg0.N) (ht : t.val ≠ 0) (d) : (dats m 0 c).before 9 t d = keyScales m c := by
  rw [Dat.before_out_traj _ 9 rfl (fun _ _ => rfl) (fun s _ _ _ => by rw [after0_9, after0_9]) t.val t rfl d,
    if_neg (by rw [notFresh 9 (by decide) t ht]; exact Bool.false_ne_true)]
  dsimp only [dats]
theorem before0_10 (c : Dev nD) (t : Fin cfg0.N) (ht : t.val ≠ 0) (d) : (dats m 0 c).before 10 t d = valCodes m c := by
  rw [Dat.before_out_traj _ 10 rfl (fun _ _ => rfl) (fun s _ _ _ => by rw [after0_10, after0_10]) t.val t rfl d,
    if_neg (by rw [notFresh 10 (by decide) t ht]; exact Bool.false_ne_true)]
  dsimp only [dats]
theorem before0_11 (c : Dev nD) (t : Fin cfg0.N) (ht : t.val ≠ 0) (d) : (dats m 0 c).before 11 t d = valScales m c := by
  rw [Dat.before_out_traj _ 11 rfl (fun _ _ => rfl) (fun s _ _ _ => by rw [after0_11, after0_11]) t.val t rfl d,
    if_neg (by rw [notFresh 11 (by decide) t ht]; exact Bool.false_ne_true)]
  dsimp only [dats]

/-- Where a window is stored the body leaves what the proof data says, -/
theorem leaves_live (c : Dev nD) (w : Fin cfg0.W) (t : Fin cfg0.N) (h : cfg0.idle w (grid0.coords t) = false) :
    owns (c : Thread nD τ) ((cfg0.win w).stage (cfg0.slots t w)) fullShare ((dats m 0 c).after w t) ⊢ (dats m 0 c).leavesExact w t := by
  unfold Dat.leavesExact; rw [h]

/-- and where it isn't, what was there before, which must be what the proof data says if the point writes it back. -/
theorem leaves_idle (c : Dev nD) (w : Fin cfg0.W) (t : Fin cfg0.N) (h : cfg0.idle w (grid0.coords t) = true)
    (hb : ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact; rw [h]
  cases (cfg0.win w).flush t with
  | true => exact Entails.refl _
  | false =>
    simp only [hb]
    iintro H
    iexists (dats m 0 c).after w t
    iexact H

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The obligation at the first point. -/
theorem sound_first (c : Dev nD) : bodyPre m c first ⊢ wp frame (wpE (defs₀ (F := F)) Variants.none c none) Set.univ (bodyAt0 first) (fun _ => bodyPost m c first) := by
  unfold bodyPre bodyPost bodyAt0
  simp only [before0_0, before0_1, before0_2, before0_3, before0_4, before0_5, before0_6]
  rw [show (dats m 0 c).owesAt () first.succ = (dats m 0 c).owesAt () first.castSucc from rfl]
  rw [show (dats m 0 c).Φ first.castSucc = Pipeline.ΦA spec0 c from rfl, PhiA0_eq]
  rw [show (dats m 0 c).Φ first.succ = PhiS m c 1 from rfl, PhiS_pos m c 1 Nat.one_ne_zero]
  rw [show (dats m 0 c).leavesExact 0 first = owns (c : Thread nD τ) (ms0_0 first) fullShare ((dats m 0 c).after 0 first) from by
    unfold Dat.leavesExact; rw [show cfg0.idle 0 (cfg0.grid.coords first) = false from rfl], after0_0]
  rw [show (dats m 0 c).leavesExact 1 first = owns (c : Thread nD τ) (ms0_1 first) fullShare ((dats m 0 c).after 1 first) from by
    unfold Dat.leavesExact; rw [show cfg0.idle 1 (cfg0.grid.coords first) = false from rfl], after0_1]
  rw [show (dats m 0 c).leavesExact 2 first = owns (c : Thread nD τ) (ms0_2 first) fullShare ((dats m 0 c).after 2 first) from by
    unfold Dat.leavesExact; rw [show cfg0.idle 2 (cfg0.grid.coords first) = false from rfl], after0_2]
  rw [show (dats m 0 c).leavesExact 3 first = owns (c : Thread nD τ) (ms0_3 first) fullShare ((dats m 0 c).after 3 first) from by
    unfold Dat.leavesExact; rw [show cfg0.idle 3 (cfg0.grid.coords first) = false from rfl], after0_3]
  rw [show (dats m 0 c).leavesExact 4 first = owns (c : Thread nD τ) (ms0_4 first) fullShare ((dats m 0 c).after 4 first) from by
    unfold Dat.leavesExact; rw [show cfg0.idle 4 (cfg0.grid.coords first) = false from rfl], after0_4]
  rw [show (dats m 0 c).leavesExact 5 first = owns (c : Thread nD τ) (ms0_5 first) fullShare ((dats m 0 c).after 5 first) from by
    unfold Dat.leavesExact; rw [show cfg0.idle 5 (cfg0.grid.coords first) = false from rfl], after0_5]
  rw [show (dats m 0 c).leavesExact 6 first = owns (c : Thread nD τ) (ms0_6 first) fullShare ((dats m 0 c).after 6 first) from by
    unfold Dat.leavesExact; rw [show cfg0.idle 6 (cfg0.grid.coords first) = false from rfl], after0_6]
  rw [show (dats m 0 c).leavesExact 7 first = owns (c : Thread nD τ) (ms0_7 first) fullShare ((dats m 0 c).after 7 first) from by
    unfold Dat.leavesExact; rw [show cfg0.idle 7 (cfg0.grid.coords first) = false from rfl], after0_7]
  rw [attended_first m c first first_isFirst]
  unfold newKeys newVals
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((firstRun m c first first_isFirst).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (View.cover_of_tiledL (firstRun m c first first_isFirst).2.2.2.2.2.1 S256x128.size (by sl_kernel_rfl))
      unfold owns; iexists _; isplitr
      swap; · iexact HS1
      ipureintro; exact View.read_writes_of_cover _ _ _ _ _ (View.cover_of_tiledL (firstRun m c first first_isFirst).2.2.2.2.2.2.1 S256x128.size (by sl_kernel_rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (View.cover_of_tiledL (firstRun m c first first_isFirst).1 S1x16x64.size (by sl_kernel_rfl))
  isplitl [H8]
  · iapply (leaves_live m c 8 first (live_first first first_isFirst).1)
    rw [after0_8]
    unfold keyCodes owns; iexists _; isplitr
    swap; · iexact H8
    ipureintro; exact View.read_writes_of_cover _ _ _ _ _ (View.cover_of_tiledL (firstRun m c first first_isFirst).2.1 S4x64x128.size (by sl_kernel_rfl))
  isplitl [H9]
  · iapply (leaves_live m c 9 first (live_first first first_isFirst).2.1)
    rw [after0_9]
    unfold keyScales owns; iexists _; isplitr
    swap; · iexact H9
    ipureintro; exact View.read_writes_of_cover _ _ _ _ _ (View.cover_of_tiledL (firstRun m c first first_isFirst).2.2.1 S4x128.size (by sl_kernel_rfl))
  isplitl [H10]
  · iapply (leaves_live m c 10 first (live_first first first_isFirst).2.2.1)
    rw [after0_10]
    unfold valCodes owns; iexists _; isplitr
    swap; · iexact H10
    ipureintro; exact View.read_writes_of_cover _ _ _ _ _ (View.cover_of_tiledL (firstRun m c first first_isFirst).2.2.2.1 S4x64x128.size (by sl_kernel_rfl))
  iapply (leaves_live m c 11 first (live_first first first_isFirst).2.2.2)
  rw [after0_11]
  unfold valScales owns; iexists _; isplitr
  swap; · iexact H11
  ipureintro; exact View.read_writes_of_cover _ _ _ _ _ (View.cover_of_tiledL (firstRun m c first first_isFirst).2.2.2.2.1 S4x128.size (by sl_kernel_rfl))

/-- The obligation at a later point. -/
theorem sound_later (c : Dev nD) (t : Fin cfg0.N) (h : ¬isFirst (grid0.coords t)) :
    bodyPre m c t ⊢ wp frame (wpE (defs₀ (F := F)) Variants.none c none) Set.univ (bodyAt0 t) (fun _ => bodyPost m c t) := by
  have hz : t.val ≠ 0 := fun e => h ((isFirst_iff t).mpr e)
  unfold bodyPre bodyPost bodyAt0
  simp only [before0_0, before0_1, before0_2, before0_3, before0_4, before0_5, before0_6, before0_8 m c t hz, before0_9 m c t hz, before0_10 m c t hz, before0_11 m c t hz]
  rw [show (dats m 0 c).owesAt () t.succ = (dats m 0 c).owesAt () t.castSucc from rfl]
  rw [show (dats m 0 c).Φ t.castSucc = PhiS m c t.val from rfl, PhiS_pos m c _ hz]
  rw [show (dats m 0 c).Φ t.succ = PhiS m c (t.val + 1) from rfl, PhiS_pos m c _ (Nat.succ_ne_zero _)]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  rw [attended_later m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((laterRun m c t h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, ⟨%e7, H7⟩, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (View.cover_of_tiledL (laterRun m c t h).1 S1x16x64.size (by sl_kernel_rfl))
  isplitl [H8]
  · iapply (leaves_idle m c 8 t (idle_later t h).1 (fun d => (before0_8 m c t hz d).trans (after0_8 m c t).symm))
    rw [after0_8]
    iexact H8
  isplitl [H9]
  · iapply (leaves_idle m c 9 t (idle_later t h).2.1 (fun d => (before0_9 m c t hz d).trans (after0_9 m c t).symm))
    rw [after0_9]
    iexact H9
  isplitl [H10]
  · iapply (leaves_idle m c 10 t (idle_later t h).2.2.1 (fun d => (before0_10 m c t hz d).trans (after0_10 m c t).symm))
    rw [after0_10]
    iexact H10
  iapply (leaves_idle m c 11 t (idle_later t h).2.2.2 (fun d => (before0_11 m c t hz d).trans (after0_11 m c t).symm))
  rw [after0_11]
  iexact H11

/-- The obligation at any point. -/
theorem sound_body (c : Dev nD) (t : Fin cfg0.N) :
    bodyPre m c t ⊢ wp frame (wpE (defs₀ (F := F)) Variants.none c none) Set.univ (bodyAt0 t) (fun _ => bodyPost m c t) := by
  by_cases h : isFirst (grid0.coords t)
  · rw [eq_first h]; exact sound_first m c
  · exact sound_later m c t h

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The obligation of the body as the library asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Pipeline.ΦA spec0 c from rfl]

/-- and after the last point it is given back, the contents of the scratch arrays forgotten. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [points]; omega), PhiA0_eq]
  iintro ⟨⟨HS0, HS1⟩, Hg⟩
  isplitl [HS0 HS1]
  · isplitl [HS0]
    · iexists _; iexact HS0
    iexists _; iexact HS1
  iexact Hg

/-! ## The run and the frame -/

-- the theorem's implicit arguments are found by unifying its conclusion with this one, which takes unfolding plain definitions
set_option backward.isDefEq.respectTransparency.types false in
/-- The kernel runs to the end, its arrays end at what the proof data says, and every semaphore ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the kernel runs, its argument arrays end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body

end
-- ==== Proof.Body.Same.lean ====
/- The kernel as printed and the kernel read over the extended reals are the same program text: their tables of bodies agree at
   every format, so the frame proved of the one is the frame of the other. -/
module

public import proofs.«01_k».proof.Defs
public import proofs.«01_k».proof.Proof.Gen.Kernel
public import proofs.«01_k».proof.Proof.Gen.KernelIdeal
public import proofs.«01_k».proof.Proof.Body.Run

@[expose] public section

noncomputable section

namespace Cert.KernelIdeal.Body

open Idealize.ShloMosaic Idealize.SL.Sem

set_option maxHeartbeats 2000000 in
/-- The two bodies are one. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext b
  match b with
  | 0 => funext a; obtain ⟨i, s⟩ := a; rfl

/-- So are the two tables, with the pipeline's rows. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) defs₀_eq

/-- The frame of the kernel as printed. -/
theorem frame_printed : Cert.quiescent_Kernel (hKernel := Cert.Kernel.Gen.facts) := by
  intro m ρ _
  rw [defs_eq]
  exact frame (F := Bits) m ρ

end Cert.KernelIdeal.Body

end
-- ==== Proof.Value.Attention.lean ====
/- Attention of one query row over a cache and one new token, as plain arithmetic on the extended reals: the closed form that the
   kernel and the reference are both shown to hold. -/
module

public import Idealize.ShloMosaic.PureOps
public import Idealize.ShloMosaic.Lib.ValueIdx

@[expose] public section

noncomputable section

open scoped BigOperators

namespace Cert.Value

open Idealize.ShloMosaic Idealize.ShloMosaic.ValueIdx

/-- The pattern of `-∞` is the least extended real. -/
theorem negInf : Ideal.ofBits .f32 0xFF800000#32 = (⊥ : EReal) := by simp [Ideal.ofBits, Ideal.ieee]

/-- The scaled score of a query against a key. -/
def score (q k : Fin 64 → EReal) : EReal := (∑ d, q d * k d) * Ideal.ofBits .f32 0x3E000000#32

/-- One result of the attention: scores `s` of the cached tokens and `s'` of the new one weigh the values `v` and `v'`. -/
def attend (s : Fin 4096 → EReal) (s' : EReal) (v : Fin 4096 → EReal) (v' : EReal) : EReal :=
  Ideal.div ((∑ t, v t * Ideal.exp (s t - max (Finset.univ.sup s) s')) + v' * Ideal.exp (s' - max (Finset.univ.sup s) s'))
    ((∑ t, Ideal.exp (s t - max (Finset.univ.sup s) s')) + Ideal.exp (s' - max (Finset.univ.sup s) s'))

/-- The scale of a row of 64: its largest magnitude over 127, or one. -/
def scaleOf (x : Fin 64 → EReal) : EReal :=
  Scalar.select (Ideal.cmp .ogt (Finset.univ.sup fun d => max (x d) (-(x d))) (Ideal.ofBits .f32 0x00000000#32))
    (Ideal.div (Finset.univ.sup fun d => max (x d) (-(x d))) (Ideal.ofBits .f32 0x42FE0000#32)) (Ideal.ofBits .f32 0x3F800000#32)

/-- The code of one element under a scale: the quotient rounded to the even integer, clipped to ±127 and converted. -/
def codeOf (x s : EReal) : BitVec 8 :=
  Ideal.fptosi 8 (min (Ideal.ofBits .f32 0x42FE0000#32) (max (Ideal.ofBits .f32 0xC2FE0000#32) (Ideal.liftRound Ideal.roundHalfEven (Ideal.div x s))))

/-- The extended real of a code. -/
def ofCode (b : BitVec 8) : EReal := ((b.toInt : ℝ) : EReal)

/-- A fold of `max` from the least value is the supremum. -/
theorem fold_max_bot {n : ℕ} (f : Fin n → EReal) : Finset.univ.fold max (⊥ : EReal) f = Finset.univ.sup f := rfl

/-- A supremum over one more index. -/
theorem sup_castSucc {n : ℕ} (f : Fin (n + 1) → EReal) :
    Finset.univ.sup f = max (Finset.univ.sup fun i : Fin n => f i.castSucc) (f (Fin.last n)) := by
  rw [Fin.univ_castSuccEmb, Finset.sup_cons, Finset.sup_map, max_comm]
  rfl

/-- The supremum of a family that is the least value off one index. -/
theorem sup_single {n : ℕ} (b : Fin n) (x : EReal) : (Finset.univ.sup fun i => if i = b then x else ⊥) = x := by
  apply le_antisymm
  · refine Finset.sup_le fun i _ => ?_
    split
    · exact le_rfl
    · exact bot_le
  · exact le_trans (by simp) (Finset.le_sup (f := fun i => if i = b then x else (⊥ : EReal)) (Finset.mem_univ b))

/-- A masked score weighs nothing: `-∞` less anything is `-∞`, whose exponential is zero. -/
theorem exp_bot_sub (m : EReal) : Ideal.exp (⊥ - m) = 0 := by
  rw [sub_eq_add_neg, EReal.bot_add]; rfl

/-- The sum over 256 columns laid out as four heads of 64. -/
theorem sum_heads (f : Fin 256 → EReal) :
    ∑ c, f c = ∑ h : Fin 4, ∑ d : Fin 64, f ⟨64 * h.val + d.val, by omega⟩ := by
  rw [← Equiv.sum_comp (finProdFinEquiv (m := 4) (n := 64)) f, Fintype.sum_prod_type]
  refine Finset.sum_congr rfl fun h _ => Finset.sum_congr rfl fun d _ => congrArg f (Fin.ext ?_)
  simp [finProdFinEquiv]; omega

/-- Only the columns of one head count where the others hold zero. -/
theorem sum_one_head (h : Fin 4) (q : Fin 64 → EReal) (w g : Fin 256 → EReal)
    (hw : ∀ c : Fin 256, w c = if h.val = c.val / 64 then q ⟨c.val % 64, by omega⟩ else 0) :
    ∑ c, w c * g c = ∑ d : Fin 64, q d * g ⟨64 * h.val + d.val, by omega⟩ := by
  rw [sum_heads, Finset.sum_eq_single h]
  · refine Finset.sum_congr rfl fun d _ => ?_
    rw [hw, if_pos (by show _ = (64 * h.val + d.val) / 64; omega)]
    congr 2; apply Fin.ext; show (64 * h.val + d.val) % 64 = d.val; omega
  · intro h' _ hne
    refine Finset.sum_eq_zero fun d _ => ?_
    rw [hw, if_neg (by show ¬ _ = (64 * h'.val + d.val) / 64; intro e; exact hne (Fin.ext (by omega))), zero_mul]
  · intro hn; exact absurd (Finset.mem_univ _) hn

/-- The attention over a family of 4097 whose last member is the new token. -/
theorem attend_of_all (s v : Fin 4097 → EReal) :
    Ideal.div (∑ t, Ideal.exp (s t - Finset.univ.sup s) * v t) (∑ t, Ideal.exp (s t - Finset.univ.sup s))
      = attend (fun t => s t.castSucc) (s (Fin.last 4096)) (fun t => v t.castSucc) (v (Fin.last 4096)) := by
  rw [sup_castSucc s, Fin.sum_univ_castSucc, Fin.sum_univ_castSucc (f := fun t => Ideal.exp (s t - _))]
  unfold attend
  simp only [mul_comm]

end Cert.Value

end
-- ==== Proof.Value.Columns.lean ====
/- What the kernel computes for one sequence, as one definition: the masks that keep a query row to its own key head, the rows of
   the step's queries, and the dequantised cache. -/
module

public import proofs.«01_k».proof.Proof.Gen.KernelIdeal.Skeleton
public import proofs.«01_k».proof.Proof.Value.Attention
public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

open scoped BigOperators

namespace Cert.KernelIdeal.Value

open Idealize.ShloMosaic Idealize.ShloMosaic.ValueIdx Cert.KernelIdeal Cert.KernelIdeal.Gen Cert.Value

/-! ## The masks -/

/-- The head of a query row, as the kernel's integer arithmetic finds it. -/
def rowHead (r : Fin 64) : BitVec 32 :=
  select (andi k0_pay14 (cmpi .ne k0_pay15 (broadcast S64x256 0#32))) (subi k0_pay13 (broadcast S64x256 1#32)) k0_pay13 (ix2 r (0 : Fin 256))

theorem rowHead_eq (r : Fin 64) : rowHead r = BitVec.ofNat 32 (r.val % 16 / 4) := by
  revert r; decide +kernel

/-- The word a column of the tiled queries is compared by: its head. -/
def colWord : IVec S64x256 32 :=
  have v48 : IVec S64x256 32 := iota .tc S64x256 32 [1] iota_S64x256_d1_w32
  have v50 : IVec S64x256 32 := divsi v48 (broadcast S64x256 64#32)
  have v57 : IVec S64x256 32 := subi (extui 32 (cmpi .sgt v48 (broadcast S64x256 0#32)) natLt_1_32)
    (extui 32 (cmpi .slt v48 (broadcast S64x256 0#32)) natLt_1_32)
  let v62 : BitVec 32 := Scalar.subi (Scalar.extui (Scalar.cmpi .sgt 64#32 0#32)) (Scalar.extui (Scalar.cmpi .slt 64#32 0#32))
  have v64 : IVec S64x256 1 := cmpi .ne v57 (broadcast S64x256 v62)
  have v68 : IVec S64x256 1 := cmpi .ne (remsi v48 (broadcast S64x256 64#32)) (broadcast S64x256 0#32)
  select (andi v64 v68) (subi v50 (broadcast S64x256 1#32)) v50

/-- The head of a column. -/
def colHead (c : Fin 256) : BitVec 32 := colWord (ix2 (0 : Fin 64) c)

theorem colHead_eq (c : Fin 256) : colHead c = BitVec.ofNat 32 (c.val / 64) := by
  revert c; decide +kernel

/-- The head of an output row. -/
abbrev outWord : IVec S16x64 32 := k0_pay19 (iota .tc S16x64 32 [0] iota_S16x64_d0_w32) (4#32) k0_pay17 k0_pay18 1#32

/-- The head of an output row, in its first column. -/
def outHead (n : Fin 16) : BitVec 32 := outWord (ix2 n (0 : Fin 64))

theorem outHead_eq (n : Fin 16) : outHead n = BitVec.ofNat 32 (n.val / 4) := by
  revert n; decide +kernel

theorem outWord_apply (n : Fin 16) (e : Fin 64) : outWord (ix2 n e) = BitVec.ofNat 32 (n.val / 4) :=
  (show outWord (ix2 n e) = outHead n from rfl).trans (outHead_eq n)

/-! ## The queries -/

/-- The tiled queries: row `16 i + n` holds head `n` of sequence `i`, four times over. -/
theorem tiled_apply {F : FTy → Type} [FloatOps F] (q : Vec F S4x16x64 .bf16) (i : Fin 4) (n : Fin 16) (c : Fin 256) :
    k0_pay11 q (ix2 (⟨16 * i.val + n.val, by omega⟩ : Fin 64) c) = q (ix3 i n (⟨c.val % 64, by omega⟩ : Fin 64)) := by
  unfold k0_pay11
  refine (concatenate_replicate_apply (t := S64x256) (s₁ := S64x64) 1 4 _ concatenates_S64x64_S64x64_S64x64_S64x64_S64x256_d1 rfl _
    (ix2 (⟨16 * i.val + n.val, by omega⟩ : Fin 64) (⟨c.val % 64, by omega⟩ : Fin 64)) rfl
    (fun b hb => by match b with | ⟨0, _⟩ => rfl | ⟨1, _⟩ => exact absurd rfl hb)).trans ?_
  refine (shapeCast_apply _ _ _ (ix3 i n (⟨c.val % 64, by omega⟩ : Fin 64)) ?_).trans (shapeCast_apply _ _ _ _ rfl)
  rw [Shape.rowMajor_val_three, Shape.rowMajor_val_two]
  show (i.val * 16 + n.val) * 64 + c.val % 64 = (16 * i.val + n.val) * 64 + c.val % 64
  omega

/-- The block-diagonal queries of the step. -/
abbrev diag {F : FTy → Type} [FloatOps F] (q : Vec F S4x16x64 .bf16) : FVec F S64x256 .bf16 := k0_pay16 (k0_pay11 q) k0_pay13 k0_pay14 k0_pay15

theorem ofNat_eq_iff (a b : ℕ) (ha : a < 4) (hb : b < 4) : BitVec.ofNat 32 a = BitVec.ofNat 32 b ↔ a = b := by
  constructor
  · intro h; have := congrArg BitVec.toNat h; simp at this; omega
  · rintro rfl; rfl

/-- Outside its own head a query row holds zero. -/
theorem diag_apply (q : Vec Ideal S4x16x64 .bf16) (i : Fin 4) (n : Fin 16) (c : Fin 256) :
    diag q (ix2 (⟨16 * i.val + n.val, by omega⟩ : Fin 64) c)
      = if n.val / 4 = c.val / 64 then q (ix3 i n (⟨c.val % 64, by omega⟩ : Fin 64)) else (0 : EReal) := by
  have e : diag q (ix2 (⟨16 * i.val + n.val, by omega⟩ : Fin 64) c)
      = Scalar.select (BitVec.ofBool (decide (rowHead ⟨16 * i.val + n.val, by omega⟩ = colHead c)))
          (k0_pay11 q (ix2 (⟨16 * i.val + n.val, by omega⟩ : Fin 64) c)) (Ideal.ofBits .bf16 0x0000#16) := rfl
  have z : Ideal.ofBits .bf16 0x0000#16 = (0 : EReal) := by simp [Ideal.ofBits, Ideal.ieee]
  rw [e, z, tiled_apply, rowHead_eq, colHead_eq]
  have hr : (16 * i.val + n.val) % 16 / 4 = n.val / 4 := by omega
  show Scalar.select (BitVec.ofBool (decide (BitVec.ofNat 32 ((16 * i.val + n.val) % 16 / 4) = BitVec.ofNat 32 (c.val / 64)))) _ _ = _
  rw [hr]
  by_cases h : n.val / 4 = c.val / 64
  · rw [if_pos h, h, decide_eq_true rfl]; rfl
  · rw [if_neg h, decide_eq_false (fun h' => h ((ofNat_eq_iff _ _ (by omega) (by omega)).1 h'))]; rfl

/-! ## The cache -/

/-- A cache block dequantised: codes times scales, rows `64 h + d`. -/
def wide {F : FTy → Type} [FloatOps F] (k : Vec F S1x4x64x4096 .i8) (ks : Vec F S1x4x4096 .f32) : FVec F S256x4096 .bf16 :=
  shapeCast S256x4096 (mulf (sitofp .bf16 (shapeCast S4x64x4096 k shapeCasts_S1x4x64x4096_S4x64x4096))
    (broadcastTo S4x64x4096 (shapeCast S4x1x4096 (truncf .bf16 (shapeCast S4x4096 ks shapeCasts_S1x4x4096_S4x4096) bitsLt_bf16_f32)
      shapeCasts_S4x4096_S4x1x4096) broadcasts_S4x1x4096_S4x64x4096)) shapeCasts_S4x64x4096_S256x4096

theorem wide_apply (k : Vec Ideal S1x4x64x4096 .i8) (ks : Vec Ideal S1x4x4096 .f32) (h : Fin 4) (d : Fin 64) (t : Fin 4096) :
    (wide k ks : FVec Ideal S256x4096 .bf16) (ix2 (⟨64 * h.val + d.val, by omega⟩ : Fin 256) t)
      = ofCode (k (ix4 (0 : Fin 1) h d t)) * ks (ix3 (0 : Fin 1) h t) := by
  unfold wide
  refine (shapeCast_apply _ _ _ (ix3 h d t) ?_).trans ?_
  · rw [Shape.rowMajor_val_three, Shape.rowMajor_val_two]
    show (h.val * 64 + d.val) * 4096 + t.val = (64 * h.val + d.val) * 4096 + t.val
    omega
  rw [mulf_apply, sitofp_apply, shapeCast_1abc_abc_apply]
  refine congrArg (ofCode (k (ix4 (0 : Fin 1) h d t)) * ·) ?_
  refine (broadcastTo_apply _ _ _ (ix3 h (0 : Fin 1) t) (fun a => by match a with | ⟨0, _⟩ => rfl | ⟨1, _⟩ => rfl | ⟨2, _⟩ => rfl)).trans ?_
  refine (shapeCast_apply _ _ _ (ix2 h t) ?_).trans ?_
  · rw [Shape.rowMajor_val_three, Shape.rowMajor_val_two]
    show h.val * 4096 + t.val = (h.val * 1 + 0) * 4096 + t.val
    omega
  rw [truncf_apply, shapeCast_1ab_ab_apply]

end Cert.KernelIdeal.Value

end
-- ==== Proof.Value.Sequence.lean ====
/- One sequence of a step: the kernel's operations on it as one definition, which the four unrolled copies are, and its value at an
   index, the attention of that query row over its key head's cache and the new token. -/
module

public import proofs.«01_k».proof.Proof.Value.Columns

@[expose] public section

noncomputable section

open scoped BigOperators

namespace Cert.KernelIdeal.Value

open Idealize.ShloMosaic Idealize.ShloMosaic.ValueIdx Cert.KernelIdeal Cert.KernelIdeal.Gen Cert.Value

section Definition
variable {F : FTy → Type} [FloatOps F]

/-- The scores of the sixteen rows against the cached tokens. -/
def scores (qi : FVec F S16x256 .bf16) (k : Vec F S1x4x64x4096 .i8) (ks : Vec F S1x4x4096 .f32) : FVec F S16x4096 .f32 :=
  mulf (matmul dot_S16x256_S256x4096_S16x4096_1_0_0_1_n_n none qi (wide k ks) (constant S16x4096 .f32 0x00000000#32))
    (broadcast S16x4096 (Scalar.ofBits .f32 0x3E000000#32))

/-- The scores against the new tokens, kept in the sequence's own column. -/
def newScores (qi : FVec F S16x256 .bf16) (col : BitVec 32) (S0 : Vec F S256x128 .bf16) : FVec F S16x128 .f32 :=
  select (cmpi .eq (iota .tc S16x128 32 [1] iota_S16x128_d1_w32) (broadcast S16x128 col))
    (mulf (matmul dot_S16x256_S256x128_S16x128_1_0_0_1_n_n none qi S0 (constant S16x128 .f32 0x00000000#32))
      (broadcast S16x128 (Scalar.ofBits .f32 0x3E000000#32)))
    (broadcast S16x128 (Scalar.ofBits .f32 0xFF800000#32))

/-- The largest of a row. -/
def rowMax (s : FVec F S16x4096 .f32) : FVec F S16x1 .f32 :=
  shapeCast S16x1 (multiReduction .maximumf [1] S16 s 0xFF800000#32 reduces_S16x4096_S16 (.inl rfl) rfl) shapeCasts_S16_S16x1

/-- The weighted values of all four heads, and from them the block that is stored. -/
def seqOut (qi : FVec F S16x256 .bf16) (col : BitVec 32) (k : Vec F S1x4x64x4096 .i8) (ks : Vec F S1x4x4096 .f32)
    (v : Vec F S1x4x64x4096 .i8) (vs : Vec F S1x4x4096 .f32) (S0 S1 : Vec F S256x128 .bf16) : FVec F S1x16x64 .bf16 :=
  k0_pay26 outWord (k0_pay24 (scores qi k ks) (newScores qi col S0) (rowMax (scores qi k ks)) v vs S1)
    (k0_pay25 outWord (scores qi k ks) (newScores qi col S0) (rowMax (scores qi k ks)) v vs S1) 2#32

variable (a : BitVec 32) (w : FVec F S64x256 .bf16) (k : Vec F S1x4x64x4096 .i8) (ks : Vec F S1x4x4096 .f32)
  (v : Vec F S1x4x64x4096 .i8) (vs : Vec F S1x4x4096 .f32) (S0 S1 : Vec F S256x128 .bf16)

/-- The four copies in the kernel's text are the one definition. -/
theorem copy0 : k0_pay26 outWord (k0_pay24 (k0_pay21 w k ks) (k0_pay22 a w S0) (k0_pay23 w k ks) v vs S1)
    (k0_pay25 outWord (k0_pay21 w k ks) (k0_pay22 a w S0) (k0_pay23 w k ks) v vs S1) 2#32
    = seqOut (k0_pay20 w) (Scalar.addi (Scalar.muli a 4#32) 0#32) k ks v vs S0 S1 := rfl

theorem copy1 : k0_pay33 outWord (k0_pay31 (k0_pay28 w k ks) (k0_pay29 a w (iota .tc S16x128 32 [1] iota_S16x128_d1_w32) S0) (k0_pay30 w k ks) v vs S1)
    (k0_pay32 outWord (k0_pay28 w k ks) (k0_pay29 a w (iota .tc S16x128 32 [1] iota_S16x128_d1_w32) S0) (k0_pay30 w k ks) v vs S1) 2#32
    = seqOut (k0_pay27 w) (Scalar.addi (Scalar.muli a 4#32) 1#32) k ks v vs S0 S1 := rfl

theorem copy2 : k0_pay40 outWord (k0_pay38 (k0_pay35 w k ks) (k0_pay36 a w (iota .tc S16x128 32 [1] iota_S16x128_d1_w32) S0) (k0_pay37 w k ks) v vs S1)
    (k0_pay39 outWord (k0_pay35 w k ks) (k0_pay36 a w (iota .tc S16x128 32 [1] iota_S16x128_d1_w32) S0) (k0_pay37 w k ks) v vs S1) 2#32
    = seqOut (k0_pay34 w) (Scalar.addi (Scalar.muli a 4#32) 2#32) k ks v vs S0 S1 := rfl

theorem copy3 : k0_pay1 outWord (k0_pay45 (k0_pay42 w k ks) (k0_pay43 a w (iota .tc S16x128 32 [1] iota_S16x128_d1_w32) S0) (k0_pay44 w k ks) v vs S1)
    (k0_pay46 outWord (k0_pay42 w k ks) (k0_pay43 a w (iota .tc S16x128 32 [1] iota_S16x128_d1_w32) S0) (k0_pay44 w k ks) v vs S1) 2#32
    = seqOut (k0_pay41 w) (Scalar.addi (Scalar.muli a 4#32) 3#32) k ks v vs S0 S1 := rfl

end Definition

/-! ## The products at an index -/

theorem dotCache_apply (L : FVec Ideal S16x256 .bf16) (R : FVec Ideal S256x4096 .bf16) (n : Fin 16) (t : Fin 4096) :
    matmul dot_S16x256_S256x4096_S16x4096_1_0_0_1_n_n none L R (constant S16x4096 .f32 0x00000000#32) (ix2 n t)
      = ∑ c : Fin 256, L (ix2 n c) * R (ix2 c t) := by
  refine (Ideal.matmul_constant_zero_apply _ none _ _ _).trans ?_
  rw [← Equiv.sum_comp (contrEquiv1 dot_S16x256_S256x4096_S16x4096_1_0_0_1_n_n 256 rfl rfl).symm]
  refine Finset.sum_congr rfl fun c _ => ?_
  congr 1
  · refine congrArg L (funext fun b => ?_); match b with | ⟨0, _⟩ => rfl | ⟨1, _⟩ => rfl
  · refine congrArg R (funext fun b => ?_); match b with | ⟨0, _⟩ => rfl | ⟨1, _⟩ => rfl

theorem dotNew_apply (L : FVec Ideal S16x256 .bf16) (R : FVec Ideal S256x128 .bf16) (n : Fin 16) (t : Fin 128) :
    matmul dot_S16x256_S256x128_S16x128_1_0_0_1_n_n none L R (constant S16x128 .f32 0x00000000#32) (ix2 n t)
      = ∑ c : Fin 256, L (ix2 n c) * R (ix2 c t) := by
  refine (Ideal.matmul_constant_zero_apply _ none _ _ _).trans ?_
  rw [← Equiv.sum_comp (contrEquiv1 dot_S16x256_S256x128_S16x128_1_0_0_1_n_n 256 rfl rfl).symm]
  refine Finset.sum_congr rfl fun c _ => ?_
  congr 1
  · refine congrArg L (funext fun b => ?_); match b with | ⟨0, _⟩ => rfl | ⟨1, _⟩ => rfl
  · refine congrArg R (funext fun b => ?_); match b with | ⟨0, _⟩ => rfl | ⟨1, _⟩ => rfl

theorem dotValues_apply (L : FVec Ideal S256x4096 .f32) (R : FVec Ideal S16x4096 .f32) (c : Fin 256) (n : Fin 16) :
    matmul dot_S256x4096_S16x4096_S256x16_1_1_0_0_n_n none L R (constant S256x16 .f32 0x00000000#32) (ix2 c n)
      = ∑ t : Fin 4096, L (ix2 c t) * R (ix2 n t) := by
  refine (Ideal.matmul_constant_zero_apply _ none _ _ _).trans ?_
  rw [← Equiv.sum_comp (contrEquiv1 dot_S256x4096_S16x4096_S256x16_1_1_0_0_n_n 4096 rfl rfl).symm]
  refine Finset.sum_congr rfl fun t _ => ?_
  congr 1
  · refine congrArg L (funext fun b => ?_); match b with | ⟨0, _⟩ => rfl | ⟨1, _⟩ => rfl
  · refine congrArg R (funext fun b => ?_); match b with | ⟨0, _⟩ => rfl | ⟨1, _⟩ => rfl

theorem dotNewValues_apply (L : FVec Ideal S256x128 .f32) (R : FVec Ideal S16x128 .f32) (c : Fin 256) (n : Fin 16) :
    matmul dot_S256x128_S16x128_S256x16_1_1_0_0_n_n none L R (constant S256x16 .f32 0x00000000#32) (ix2 c n)
      = ∑ t : Fin 128, L (ix2 c t) * R (ix2 n t) := by
  refine (Ideal.matmul_constant_zero_apply _ none _ _ _).trans ?_
  rw [← Equiv.sum_comp (contrEquiv1 dot_S256x128_S16x128_S256x16_1_1_0_0_n_n 128 rfl rfl).symm]
  refine Finset.sum_congr rfl fun t _ => ?_
  congr 1
  · refine congrArg L (funext fun b => ?_); match b with | ⟨0, _⟩ => rfl | ⟨1, _⟩ => rfl
  · refine congrArg R (funext fun b => ?_); match b with | ⟨0, _⟩ => rfl | ⟨1, _⟩ => rfl

/-! ## The rows -/

/-- A row's largest over the cached tokens. -/
theorem rowMax_apply (s : FVec Ideal S16x4096 .f32) (n : Fin 16) :
    rowMax s (ix2 n (0 : Fin 1)) = Finset.univ.sup fun t : Fin 4096 => s (ix2 n t) := by
  unfold rowMax
  rw [shapeCast_a_a1_apply]
  refine (Ideal.multiReduction_maximumf_single s _ _ _ _ _).trans ?_
  refine (congrArg (fun b => Finset.univ.fold max b _) negInf).trans ?_
  refine (fold_max_bot _).trans (congrArg _ (funext fun t => congrArg s (funext fun b => ?_)))
  match b with | ⟨0, _⟩ => rfl | ⟨1, _⟩ => rfl

/-- A row's largest over the new tokens. -/
theorem newMax_apply (s : FVec Ideal S16x128 .f32) (n : Fin 16) :
    shapeCast S16x1 (multiReduction .maximumf [1] S16 s 0xFF800000#32 reduces_S16x128_S16 (.inl rfl) rfl) shapeCasts_S16_S16x1 (ix2 n (0 : Fin 1))
      = Finset.univ.sup fun t : Fin 128 => s (ix2 n t) := by
  rw [shapeCast_a_a1_apply]
  refine (Ideal.multiReduction_maximumf_single s _ _ _ _ _).trans ?_
  refine (congrArg (fun b => Finset.univ.fold max b _) negInf).trans ?_
  refine (fold_max_bot _).trans (congrArg _ (funext fun t => congrArg s (funext fun b => ?_)))
  match b with | ⟨0, _⟩ => rfl | ⟨1, _⟩ => rfl

/-- A row's sum over the cached tokens. -/
theorem rowSum_apply (s : FVec Ideal S16x4096 .f32) (n : Fin 16) :
    shapeCast S16x1 (multiReduction .add [1] S16 s 0x00000000#32 reduces_S16x4096_S16 (.inl rfl) rfl) shapeCasts_S16_S16x1 (ix2 n (0 : Fin 1))
      = ∑ t : Fin 4096, s (ix2 n t) := by
  rw [shapeCast_a_a1_apply]
  refine (Ideal.multiReduction_add_single s _ _ _ _ _).trans ?_
  refine Finset.sum_congr rfl fun t _ => congrArg s (funext fun b => ?_)
  match b with | ⟨0, _⟩ => rfl | ⟨1, _⟩ => rfl

/-- A row's sum over the new tokens. -/
theorem newSum_apply (s : FVec Ideal S16x128 .f32) (n : Fin 16) :
    shapeCast S16x1 (multiReduction .add [1] S16 s 0x00000000#32 reduces_S16x128_S16 (.inl rfl) rfl) shapeCasts_S16_S16x1 (ix2 n (0 : Fin 1))
      = ∑ t : Fin 128, s (ix2 n t) := by
  rw [shapeCast_a_a1_apply]
  refine (Ideal.multiReduction_add_single s _ _ _ _ _).trans ?_
  refine Finset.sum_congr rfl fun t _ => congrArg s (funext fun b => ?_)
  match b with | ⟨0, _⟩ => rfl | ⟨1, _⟩ => rfl

/-- A column broadcast along its row reads the column. -/
theorem along {m : ℕ} (x : FVec Ideal S16x1 .f32) (hb : S16x1.Broadcasts ⟨2, ![16, m]⟩) (n : Fin 16) (t : Fin m) :
    broadcastTo ⟨2, ![16, m]⟩ x hb (ix2 n t) = x (ix2 n (0 : Fin 1)) :=
  broadcastTo_apply _ _ _ _ (fun a => by match a with | ⟨0, _⟩ => rfl | ⟨1, _⟩ => rfl)

/-- A weight: the exponential of a score less its row's shift. -/
theorem weight_apply {m : ℕ} (s : FVec Ideal ⟨2, ![16, m]⟩ .f32) (x : FVec Ideal S16x1 .f32) (hb : S16x1.Broadcasts ⟨2, ![16, m]⟩) (n : Fin 16)
    (t : Fin m) : exp (subf s (broadcastTo ⟨2, ![16, m]⟩ x hb)) (ix2 n t) = Ideal.exp (s (ix2 n t) - x (ix2 n (0 : Fin 1))) :=
  congrArg (fun z => Ideal.exp (s (ix2 n t) - z)) (along x hb n t)

/-- The weighted values of one row at a column of the four heads. -/
theorem weighted_apply (s : FVec Ideal S16x4096 .f32) (s' : FVec Ideal S16x128 .f32) (v : Vec Ideal S1x4x64x4096 .i8)
    (vs : Vec Ideal S1x4x4096 .f32) (S1 : Vec Ideal S256x128 .bf16) (n : Fin 16) (c : Fin 256) (m : EReal)
    (hm : m = max (Finset.univ.sup fun t : Fin 4096 => s (ix2 n t)) (Finset.univ.sup fun t : Fin 128 => s' (ix2 n t))) :
    k0_pay24 s s' (rowMax s) v vs S1 (ix2 n c)
      = Ideal.div ((∑ t : Fin 4096, (wide v vs : FVec Ideal S256x4096 .bf16) (ix2 c t) * Ideal.exp (s (ix2 n t) - m))
            + ∑ t : Fin 128, S1 (ix2 c t) * Ideal.exp (s' (ix2 n t) - m))
          ((∑ t : Fin 4096, Ideal.exp (s (ix2 n t) - m)) + ∑ t : Fin 128, Ideal.exp (s' (ix2 n t) - m)) := by
  unfold k0_pay24
  dsimp only
  rw [divf_apply, along, addf_apply, rowSum_apply, newSum_apply]
  rw [transpose_apply _ _ _ _ (ix2 c n) (fun b => by match b with | ⟨0, _⟩ => rfl | ⟨1, _⟩ => rfl), addf_apply]
  have hM : maximumf (rowMax s) (shapeCast S16x1 (multiReduction .maximumf [1] S16 s' 0xFF800000#32 reduces_S16x128_S16 (.inl rfl) rfl) shapeCasts_S16_S16x1)
      (ix2 n (0 : Fin 1)) = m := by
    rw [maximumf_apply, rowMax_apply, newMax_apply, hm]
  have e1 : ∀ t : Fin 4096, exp (subf s (broadcastTo S16x4096 (maximumf (rowMax s) (shapeCast S16x1 (multiReduction .maximumf [1] S16 s' 0xFF800000#32
      reduces_S16x128_S16 (.inl rfl) rfl) shapeCasts_S16_S16x1)) broadcasts_S16x1_S16x4096)) (ix2 n t) = Ideal.exp (s (ix2 n t) - m) := fun t =>
    (weight_apply (m := 4096) _ _ broadcasts_S16x1_S16x4096 n t).trans (congrArg (fun z => Ideal.exp (_ - z)) hM)
  have e2 : ∀ t : Fin 128, exp (subf s' (broadcastTo S16x128 (maximumf (rowMax s) (shapeCast S16x1 (multiReduction .maximumf [1] S16 s' 0xFF800000#32
      reduces_S16x128_S16 (.inl rfl) rfl) shapeCasts_S16_S16x1)) broadcasts_S16x1_S16x128)) (ix2 n t) = Ideal.exp (s' (ix2 n t) - m) := fun t =>
    (weight_apply (m := 128) _ _ broadcasts_S16x1_S16x128 n t).trans (congrArg (fun z => Ideal.exp (_ - z)) hM)
  rw [dotValues_apply, dotNewValues_apply]
  simp only [e1, e2]
  rfl

variable (h : Fin 4) (n : Fin 16) (hn : n.val / 4 = h.val) (qi : FVec Ideal S16x256 .bf16) (q : Fin 64 → EReal)
  (hq : ∀ c : Fin 256, qi (ix2 n c) = if n.val / 4 = c.val / 64 then q ⟨c.val % 64, Nat.mod_lt _ (Nat.succ_pos 63)⟩ else (0 : EReal))
include hn hq

theorem scores_apply (k : Vec Ideal S1x4x64x4096 .i8) (ks : Vec Ideal S1x4x4096 .f32) (t : Fin 4096) :
    scores qi k ks (ix2 n t) = score q fun d => ofCode (k (ix4 (0 : Fin 1) h d t)) * ks (ix3 (0 : Fin 1) h t) := by
  unfold scores
  rw [mulf_apply, dotCache_apply, sum_one_head h q _ _ (fun c => by rw [hq, hn])]
  unfold score
  refine congrArg (· * _) (Finset.sum_congr rfl fun d _ => ?_)
  rw [wide_apply]

theorem newScores_apply (b : Fin 128) (S0 : Vec Ideal S256x128 .bf16) (t : Fin 128) :
    newScores qi (BitVec.ofNat 32 b.val) S0 (ix2 n t)
      = if t = b then score q fun d => S0 (ix2 (⟨64 * h.val + d.val, by omega⟩ : Fin 256) b) else (⊥ : EReal) := by
  unfold newScores
  rw [select_apply, mulf_apply, dotNew_apply, sum_one_head h q _ _ (fun c => by rw [hq, hn])]
  have e : ((cmpi .eq (iota .tc S16x128 32 [1] iota_S16x128_d1_w32) (broadcast S16x128 (BitVec.ofNat 32 b.val)) : IVec S16x128 1) (ix2 n t))
      = BitVec.ofBool (decide (BitVec.ofNat 32 (0 * 128 + t.val) = BitVec.ofNat 32 b.val)) := rfl
  rw [e]
  by_cases hb : t = b
  · subst hb
    rw [if_pos rfl, decide_eq_true (by congr 1; omega)]
    rfl
  · rw [if_neg hb, decide_eq_false ?_]
    · exact negInf
    · intro h'
      have := congrArg BitVec.toNat h'
      simp at this
      exact hb (Fin.ext (by omega))

/-- One result of one sequence. -/
theorem seqOut_apply (b : Fin 128) (k : Vec Ideal S1x4x64x4096 .i8) (ks : Vec Ideal S1x4x4096 .f32) (v : Vec Ideal S1x4x64x4096 .i8)
    (vs : Vec Ideal S1x4x4096 .f32) (S0 S1 : Vec Ideal S256x128 .bf16) (e : Fin 64) :
    seqOut qi (BitVec.ofNat 32 b.val) k ks v vs S0 S1 (ix3 (0 : Fin 1) n e)
      = attend (fun t => score q fun d => ofCode (k (ix4 (0 : Fin 1) h d t)) * ks (ix3 (0 : Fin 1) h t))
          (score q fun d => S0 (ix2 (⟨64 * h.val + d.val, by omega⟩ : Fin 256) b))
          (fun t => ofCode (v (ix4 (0 : Fin 1) h e t)) * vs (ix3 (0 : Fin 1) h t))
          (S1 (ix2 (⟨64 * h.val + e.val, by omega⟩ : Fin 256) b)) := by
  have hs := scores_apply h n hn qi q hq k ks
  have hs' := newScores_apply h n hn qi q hq b S0
  -- the stored row takes the columns of its own head
  have pick : seqOut qi (BitVec.ofNat 32 b.val) k ks v vs S0 S1 (ix3 (0 : Fin 1) n e)
      = k0_pay24 (scores qi k ks) (newScores qi (BitVec.ofNat 32 b.val) S0) (rowMax (scores qi k ks)) v vs S1
          (ix2 n (⟨64 * h.val + e.val, by omega⟩ : Fin 256)) := by
    unfold seqOut k0_pay26 k0_pay25
    dsimp only
    rw [shapeCast_ab_1ab_apply, truncf_apply]
    generalize k0_pay24 (scores qi k ks) (newScores qi (BitVec.ofNat 32 b.val) S0) (rowMax (scores qi k ks)) v vs S1 = W
    have sl : ∀ (o : ℕ) (ho : o ≤ 192) (hw : S16x256.Slices ![0, o] S16x64), extractStridedSlice S16x64 ![0, o] W hw (ix2 n e)
        = W (ix2 n (⟨o + e.val, by omega⟩ : Fin 256)) := fun o ho hw =>
      extractStridedSlice_apply _ _ _ _ _ (fun a => by
        match a with | ⟨0, _⟩ => exact (Nat.zero_add _).symm | ⟨1, _⟩ => rfl)
    have cm : ∀ w : BitVec 32, (cmpi .eq outWord (broadcast S16x64 w) : IVec S16x64 1) (ix2 n e) = BitVec.ofBool (decide (BitVec.ofNat 32 h.val = w)) := fun w => by
      rw [← hn, ← outWord_apply n e]; rfl
    rw [select_apply, select_apply, select_apply, select_apply, cm, cm, cm, cm, sl 0 (by omega), sl 64 (by omega), sl 128 (by omega), sl 192 (by omega)]
    clear hn hs hs' sl cm hq
    match h with
    | ⟨0, _⟩ => rfl
    | ⟨1, _⟩ => rfl
    | ⟨2, _⟩ => rfl
    | ⟨3, _⟩ => rfl
  rw [pick]
  have hmax : (Finset.univ.sup fun t : Fin 128 => newScores qi (BitVec.ofNat 32 b.val) S0 (ix2 n t))
      = score q fun d => S0 (ix2 (⟨64 * h.val + d.val, by omega⟩ : Fin 256) b) := by
    simp only [hs']; exact sup_single b _
  rw [weighted_apply _ _ v vs S1 n _ _ rfl, hmax]
  simp only [hs, hs', wide_apply]
  unfold attend
  congr 1
  · refine congrArg _ ((Finset.sum_eq_single b (fun t _ ht => ?_) (fun hb => absurd (Finset.mem_univ b) hb)).trans ?_)
    · rw [if_neg ht, exp_bot_sub, mul_zero]
    · rw [if_pos rfl]
  · refine congrArg _ ((Finset.sum_eq_single b (fun t _ ht => ?_) (fun hb => absurd (Finset.mem_univ b) hb)).trans ?_)
    · rw [if_neg ht, exp_bot_sub]
    · rw [if_pos rfl]

end Cert.KernelIdeal.Value

end
-- ==== Proof.Value.Step.lean ====
/- What one grid point computes: the attention of its four sequences, piece by piece and as one block. -/
module

public import proofs.«01_k».proof.Proof.Value.Sequence
public import Idealize.ShloMosaic.Lib.Pipeline.ValueKit

@[expose] public section

noncomputable section

namespace Cert.KernelIdeal.Value

open Cert.KernelIdeal Cert.KernelIdeal.Gen Idealize.ShloMosaic.ValueIdx Cert.Value
open Idealize.ShloMosaic hiding ix1 ix2 ix3 ix4

/-- Axis 0 cut to one of four entries, the other axes whole. -/
theorem place3 {a b : ℕ} (i : ℕ) (hi : i < 4) (inb : ∀ x, (![i, 0, 0] : Fin 3 → ℕ) x + (![1, a, b] : Fin 3 → ℕ) x ≤ (![4, a, b] : Fin 3 → ℕ) x) (y : Fin a) (z : Fin b) :
    (Rect.unit (s := ⟨3, ![4, a, b]⟩) ![i, 0, 0] ![1, a, b] inb).idx (ix3 (0 : Fin 1) y z) = ix3 (⟨i, hi⟩ : Fin 4) y z := by
  funext x
  apply Fin.ext
  refine (ValueKit.rect_emb_unit_val _ _ _ _ _).trans ?_
  match x with
  | ⟨0, _⟩ => exact Nat.add_zero i
  | ⟨1, _⟩ => exact Nat.zero_add _
  | ⟨2, _⟩ => exact Nat.zero_add _

theorem place4 {a b d : ℕ} (i : ℕ) (hi : i < 4) (inb : ∀ x, (![i, 0, 0, 0] : Fin 4 → ℕ) x + (![1, a, b, d] : Fin 4 → ℕ) x ≤ (![4, a, b, d] : Fin 4 → ℕ) x)
    (y : Fin a) (z : Fin b) (w : Fin d) :
    (Rect.unit (s := ⟨4, ![4, a, b, d]⟩) ![i, 0, 0, 0] ![1, a, b, d] inb).idx (ix4 (0 : Fin 1) y z w) = ix4 (⟨i, hi⟩ : Fin 4) y z w := by
  funext x
  apply Fin.ext
  refine (ValueKit.rect_emb_unit_val _ _ _ _ _).trans ?_
  match x with
  | ⟨0, _⟩ => exact Nat.add_zero i
  | ⟨1, _⟩ => exact Nat.zero_add _
  | ⟨2, _⟩ => exact Nat.zero_add _
  | ⟨3, _⟩ => exact Nat.zero_add _

/-- The queries of one sequence, and an index of its piece. -/
theorem rows0 (w : FVec Ideal S64x256 .bf16) (n : Fin 16) (c : Fin 256) :
    k0_pay20 w (ix2 n c) = w (ix2 (⟨16 * (0 : Fin 4).val + n.val, by show 16 * 0 + n.val < 64; omega⟩ : Fin 64) c) :=
  extractStridedSlice_apply _ _ slices_S64x256_o0_0_S16x256 _ _ (fun x => by match x with | ⟨0, _⟩ => rfl | ⟨1, _⟩ => exact (Nat.zero_add _).symm)
theorem rows1 (w : FVec Ideal S64x256 .bf16) (n : Fin 16) (c : Fin 256) :
    k0_pay27 w (ix2 n c) = w (ix2 (⟨16 * (1 : Fin 4).val + n.val, by show 16 * 1 + n.val < 64; omega⟩ : Fin 64) c) :=
  extractStridedSlice_apply _ _ slices_S64x256_o16_0_S16x256 _ _ (fun x => by match x with | ⟨0, _⟩ => rfl | ⟨1, _⟩ => exact (Nat.zero_add _).symm)
theorem rows2 (w : FVec Ideal S64x256 .bf16) (n : Fin 16) (c : Fin 256) :
    k0_pay34 w (ix2 n c) = w (ix2 (⟨16 * (2 : Fin 4).val + n.val, by show 16 * 2 + n.val < 64; omega⟩ : Fin 64) c) :=
  extractStridedSlice_apply _ _ slices_S64x256_o32_0_S16x256 _ _ (fun x => by match x with | ⟨0, _⟩ => rfl | ⟨1, _⟩ => exact (Nat.zero_add _).symm)
theorem rows3 (w : FVec Ideal S64x256 .bf16) (n : Fin 16) (c : Fin 256) :
    k0_pay41 w (ix2 n c) = w (ix2 (⟨16 * (3 : Fin 4).val + n.val, by show 16 * 3 + n.val < 64; omega⟩ : Fin 64) c) :=
  extractStridedSlice_apply _ _ slices_S64x256_o48_0_S16x256 _ _ (fun x => by match x with | ⟨0, _⟩ => rfl | ⟨1, _⟩ => exact (Nat.zero_add _).symm)
theorem mem_of_idx {S : Shape} (r : Rect S) {x : r.shape.Idx} {y : S.Idx} (h : r.idx x = y) : y ∈ r.set := h ▸ r.idx_mem x
theorem one (x : Shape.Idx ⟨3, ![1, 16, 64]⟩) : ∃ (y : Fin 16) (z : Fin 64), x = ix3 (0 : Fin 1) y z :=
  ⟨x 1, x 2, funext fun a => by match a with | ⟨0, _⟩ => exact Fin.fin_one_eq_zero _ | ⟨1, _⟩ => rfl | ⟨2, _⟩ => rfl⟩

section Pieces
variable {F : FTy → Type} [FloatOps F]
variable (a : BitVec 32) (q : Vec F S4x16x64 .bf16) (k : Vec F S4x4x64x4096 .i8) (ks : Vec F S4x4x4096 .f32)
  (v : Vec F S4x4x64x4096 .i8) (vs : Vec F S4x4x4096 .f32) (S0 S1 : Vec F S256x128 .bf16)

/-- The four stores of a point, the last first: one sequence each. -/
def pieces : List (View.Piece (Elt F) S4x16x64 .bf16) :=
  [⟨Rect.unit ![3, 0, 0] ![1, 16, 64] inb_S4x16x64_S1x16x64_3_0_0, seqOut (k0_pay41 (diag q)) (Scalar.addi (Scalar.muli a 4#32) 3#32)
      (View.ld k (Rect.unit ![3, 0, 0, 0] ![1, 4, 64, 4096] inb_S4x4x64x4096_S1x4x64x4096_3_0_0_0)) (View.ld ks (Rect.unit ![3, 0, 0] ![1, 4, 4096] inb_S4x4x4096_S1x4x4096_3_0_0))
      (View.ld v (Rect.unit ![3, 0, 0, 0] ![1, 4, 64, 4096] inb_S4x4x64x4096_S1x4x64x4096_3_0_0_0)) (View.ld vs (Rect.unit ![3, 0, 0] ![1, 4, 4096] inb_S4x4x4096_S1x4x4096_3_0_0)) S0 S1⟩,
   ⟨Rect.unit ![2, 0, 0] ![1, 16, 64] inb_S4x16x64_S1x16x64_2_0_0, seqOut (k0_pay34 (diag q)) (Scalar.addi (Scalar.muli a 4#32) 2#32)
      (View.ld k (Rect.unit ![2, 0, 0, 0] ![1, 4, 64, 4096] inb_S4x4x64x4096_S1x4x64x4096_2_0_0_0)) (View.ld ks (Rect.unit ![2, 0, 0] ![1, 4, 4096] inb_S4x4x4096_S1x4x4096_2_0_0))
      (View.ld v (Rect.unit ![2, 0, 0, 0] ![1, 4, 64, 4096] inb_S4x4x64x4096_S1x4x64x4096_2_0_0_0)) (View.ld vs (Rect.unit ![2, 0, 0] ![1, 4, 4096] inb_S4x4x4096_S1x4x4096_2_0_0)) S0 S1⟩,
   ⟨Rect.unit ![1, 0, 0] ![1, 16, 64] inb_S4x16x64_S1x16x64_1_0_0, seqOut (k0_pay27 (diag q)) (Scalar.addi (Scalar.muli a 4#32) 1#32)
      (View.ld k (Rect.unit ![1, 0, 0, 0] ![1, 4, 64, 4096] inb_S4x4x64x4096_S1x4x64x4096_1_0_0_0)) (View.ld ks (Rect.unit ![1, 0, 0] ![1, 4, 4096] inb_S4x4x4096_S1x4x4096_1_0_0))
      (View.ld v (Rect.unit ![1, 0, 0, 0] ![1, 4, 64, 4096] inb_S4x4x64x4096_S1x4x64x4096_1_0_0_0)) (View.ld vs (Rect.unit ![1, 0, 0] ![1, 4, 4096] inb_S4x4x4096_S1x4x4096_1_0_0)) S0 S1⟩,
   ⟨Rect.unit ![0, 0, 0] ![1, 16, 64] inb_S4x16x64_S1x16x64_0_0_0, seqOut (k0_pay20 (diag q)) (Scalar.addi (Scalar.muli a 4#32) 0#32)
      (View.ld k (Rect.unit ![0, 0, 0, 0] ![1, 4, 64, 4096] inb_S4x4x64x4096_S1x4x64x4096_0_0_0_0)) (View.ld ks (Rect.unit ![0, 0, 0] ![1, 4, 4096] inb_S4x4x4096_S1x4x4096_0_0_0))
      (View.ld v (Rect.unit ![0, 0, 0, 0] ![1, 4, 64, 4096] inb_S4x4x64x4096_S1x4x64x4096_0_0_0_0)) (View.ld vs (Rect.unit ![0, 0, 0] ![1, 4, 4096] inb_S4x4x4096_S1x4x4096_0_0_0)) S0 S1⟩]

end Pieces

/-- The attention of query head `n` of the point's sequence `i`, `b` its number in the batch. -/
def blockAnswer (q : Vec Ideal S4x16x64 .bf16) (k : Vec Ideal S4x4x64x4096 .i8) (ks : Vec Ideal S4x4x4096 .f32)
    (v : Vec Ideal S4x4x64x4096 .i8) (vs : Vec Ideal S4x4x4096 .f32) (S0 S1 : Vec Ideal S256x128 .bf16) (b : Fin 128)
    (i : Fin 4) (n : Fin 16) (e : Fin 64) : EReal :=
  attend (fun t => score (fun d => q (ix3 i n d)) fun d => ofCode (k (ix4 i (⟨n.val / 4, by omega⟩ : Fin 4) d t)) * ks (ix3 i (⟨n.val / 4, by omega⟩ : Fin 4) t))
    (score (fun d => q (ix3 i n d)) fun d => S0 (ix2 (⟨64 * (n.val / 4) + d.val, by omega⟩ : Fin 256) b))
    (fun t => ofCode (v (ix4 i (⟨n.val / 4, by omega⟩ : Fin 4) e t)) * vs (ix3 i (⟨n.val / 4, by omega⟩ : Fin 4) t))
    (S1 (ix2 (⟨64 * (n.val / 4) + e.val, by omega⟩ : Fin 256) b))

variable (q : Vec Ideal S4x16x64 .bf16) (k : Vec Ideal S4x4x64x4096 .i8) (ks : Vec Ideal S4x4x4096 .f32)
  (v : Vec Ideal S4x4x64x4096 .i8) (vs : Vec Ideal S4x4x4096 .f32) (S0 S1 : Vec Ideal S256x128 .bf16)

/-- A sequence's piece at an index. -/
theorem piece_apply (b : Fin 128) (col : BitVec 32) (hcol : col = BitVec.ofNat 32 b.val) (i : Fin 4) (qi : FVec Ideal S16x256 .bf16)
    (hqi : ∀ (n : Fin 16) (c : Fin 256), qi (ix2 n c) = diag q (ix2 (⟨16 * i.val + n.val, by omega⟩ : Fin 64) c))
    (k' : Vec Ideal S1x4x64x4096 .i8) (hk : ∀ h d t, k' (ix4 (0 : Fin 1) h d t) = k (ix4 i h d t))
    (ks' : Vec Ideal S1x4x4096 .f32) (hks : ∀ h t, ks' (ix3 (0 : Fin 1) h t) = ks (ix3 i h t))
    (v' : Vec Ideal S1x4x64x4096 .i8) (hv : ∀ h d t, v' (ix4 (0 : Fin 1) h d t) = v (ix4 i h d t))
    (vs' : Vec Ideal S1x4x4096 .f32) (hvs : ∀ h t, vs' (ix3 (0 : Fin 1) h t) = vs (ix3 i h t)) (n : Fin 16) (e : Fin 64) :
    seqOut qi col k' ks' v' vs' S0 S1 (ix3 (0 : Fin 1) n e) = blockAnswer q k ks v vs S0 S1 b i n e := by
  subst hcol
  refine (seqOut_apply (⟨n.val / 4, by omega⟩ : Fin 4) n rfl qi (fun d => q (ix3 i n d)) (fun c => (hqi n c).trans (diag_apply q i n c)) b _ _ _ _ _ _ _).trans ?_
  exact congr (congr (congrFun (congrArg attend (funext fun t => congrArg (score _) (funext fun d => congrArg₂ (fun u w => ofCode u * w) (hk _ d t) (hks _ t)))) _)
    (funext fun t => congrArg₂ (fun u w => ofCode u * w) (hv _ e t) (hvs _ t))) rfl

/-- The block after the four stores. -/
theorem pieces_apply (a : BitVec 32) (b : Fin 4 → Fin 128) (ha : ∀ i : Fin 4, Scalar.addi (Scalar.muli a 4#32) (BitVec.ofNat 32 i.val) = BitVec.ofNat 32 (b i).val)
    (i : Fin 4) (n : Fin 16) (e : Fin 64) :
    View.canon (pieces a q k ks v vs S0 S1) (ix3 i n e) = blockAnswer q k ks v vs S0 S1 (b i) i n e := by
  refine View.canon_apply_of_pieces (Val := Elt Ideal) (e := .bf16) (fun y : S4x16x64.Idx => blockAnswer q k ks v vs S0 S1 (b (y 0)) (y 0) (y 1) (y 2)) _ ?_ (ix3 i n e) ?_
  · intro p hp x
    unfold pieces at hp
    simp only [List.mem_cons, List.not_mem_nil, or_false] at hp
    rcases hp with rfl | rfl | rfl | rfl
    · obtain ⟨y, z, rfl⟩ := one x
      rw [show (Rect.unit ![3, 0, 0] ![1, 16, 64] inb_S4x16x64_S1x16x64_3_0_0).emb (ix3 (0 : Fin 1) y z) = ix3 (3 : Fin 4) y z from place3 3 (by omega) _ y z]
      exact piece_apply q k ks v vs S0 S1 (b 3) _ (ha 3) 3 _ (rows3 (diag q))
        _ (fun h d t => congrArg k (place4 3 (by omega) _ h d t)) _ (fun h t => congrArg ks (place3 3 (by omega) _ h t))
        _ (fun h d t => congrArg v (place4 3 (by omega) _ h d t)) _ (fun h t => congrArg vs (place3 3 (by omega) _ h t)) y z
    · obtain ⟨y, z, rfl⟩ := one x
      rw [show (Rect.unit ![2, 0, 0] ![1, 16, 64] inb_S4x16x64_S1x16x64_2_0_0).emb (ix3 (0 : Fin 1) y z) = ix3 (2 : Fin 4) y z from place3 2 (by omega) _ y z]
      exact piece_apply q k ks v vs S0 S1 (b 2) _ (ha 2) 2 _ (rows2 (diag q))
        _ (fun h d t => congrArg k (place4 2 (by omega) _ h d t)) _ (fun h t => congrArg ks (place3 2 (by omega) _ h t))
        _ (fun h d t => congrArg v (place4 2 (by omega) _ h d t)) _ (fun h t => congrArg vs (place3 2 (by omega) _ h t)) y z
    · obtain ⟨y, z, rfl⟩ := one x
      rw [show (Rect.unit ![1, 0, 0] ![1, 16, 64] inb_S4x16x64_S1x16x64_1_0_0).emb (ix3 (0 : Fin 1) y z) = ix3 (1 : Fin 4) y z from place3 1 (by omega) _ y z]
      exact piece_apply q k ks v vs S0 S1 (b 1) _ (ha 1) 1 _ (rows1 (diag q))
        _ (fun h d t => congrArg k (place4 1 (by omega) _ h d t)) _ (fun h t => congrArg ks (place3 1 (by omega) _ h t))
        _ (fun h d t => congrArg v (place4 1 (by omega) _ h d t)) _ (fun h t => congrArg vs (place3 1 (by omega) _ h t)) y z
    · obtain ⟨y, z, rfl⟩ := one x
      rw [show (Rect.unit ![0, 0, 0] ![1, 16, 64] inb_S4x16x64_S1x16x64_0_0_0).emb (ix3 (0 : Fin 1) y z) = ix3 (0 : Fin 4) y z from place3 0 (by omega) _ y z]
      exact piece_apply q k ks v vs S0 S1 (b 0) _ (ha 0) 0 _ (rows0 (diag q))
        _ (fun h d t => congrArg k (place4 0 (by omega) _ h d t)) _ (fun h t => congrArg ks (place3 0 (by omega) _ h t))
        _ (fun h d t => congrArg v (place4 0 (by omega) _ h d t)) _ (fun h t => congrArg vs (place3 0 (by omega) _ h t)) y z
  · match i with
    | ⟨0, _⟩ => exact ⟨_, .tail _ (.tail _ (.tail _ (.head _))), mem_of_idx _ (place3 0 (by omega) inb_S4x16x64_S1x16x64_0_0_0 n e)⟩
    | ⟨1, _⟩ => exact ⟨_, .tail _ (.tail _ (.head _)), mem_of_idx _ (place3 1 (by omega) inb_S4x16x64_S1x16x64_1_0_0 n e)⟩
    | ⟨2, _⟩ => exact ⟨_, .tail _ (.head _), mem_of_idx _ (place3 2 (by omega) inb_S4x16x64_S1x16x64_2_0_0 n e)⟩
    | ⟨3, _⟩ => exact ⟨_, .head _, mem_of_idx _ (place3 3 (by omega) inb_S4x16x64_S1x16x64_3_0_0 n e)⟩

end Cert.KernelIdeal.Value

end
-- ==== Proof.Value.Quantise.lean ====
/- The kernel's quantiser at an index: scale, code and dequantised element of the new keys; the values' text is the same function. -/
module

public import proofs.«01_k».proof.Proof.Value.Columns

@[expose] public section

noncomputable section

open scoped BigOperators

namespace Cert.KernelIdeal.Value

open Idealize.ShloMosaic Idealize.ShloMosaic.ValueIdx Cert.KernelIdeal Cert.KernelIdeal.Gen Cert.Value

section Same
variable {F : FTy → Type} [FloatOps F] (x : Vec F S4x64x128 .bf16)

/-- The new values are quantised as the new keys are. -/
theorem scales_same : k0_pay8 (k0_pay7 x) (Scalar.ofBits .f32 0x00000000#32) = k0_pay3 x := rfl
theorem codes_same : k0_pay9 (k0_pay6 x) (k0_pay7 x) (Scalar.ofBits .f32 0x00000000#32) = k0_pay4 x := rfl
theorem wide_same : k0_pay10 (k0_pay6 x) (k0_pay7 x) (Scalar.ofBits .f32 0x00000000#32) = k0_pay5 x := rfl

end Same

variable (x : Vec Ideal S4x64x128 .bf16) (h : Fin 4) (d : Fin 64) (b : Fin 128)

theorem elem_apply : k0_pay2 x (ix3 h d b) = x (ix3 h d b) := by
  unfold k0_pay2
  rw [extf_apply]
  exact shapeCast_apply _ _ _ _ rfl

/-- The largest magnitude of a row. -/
theorem peak_apply : multiReduction .maximumf [1] S4x128 (absf (k0_pay2 x)) 0xFF800000#32 reduces_S4x64x128_S4x128 (.inl rfl) rfl (ix2 h b)
    = Finset.univ.sup fun d : Fin 64 => max (x (ix3 h d b)) (-(x (ix3 h d b))) := by
  refine (Ideal.multiReduction_maximumf_single _ _ _ _ _ _).trans ?_
  refine (congrArg (fun b => Finset.univ.fold max b _) negInf).trans ?_
  refine (fold_max_bot _).trans (congrArg _ (funext fun (t : Fin 64) => ?_))
  have e : (reduces_S4x64x128_S4x128.lift (ix2 h b) t : S4x64x128.Idx) = ix3 h t b := funext fun a => by
    match a with | ⟨0, _⟩ => rfl | ⟨1, _⟩ => rfl | ⟨2, _⟩ => rfl
  show max (k0_pay2 x _) (-(k0_pay2 x _)) = _
  rw [e, elem_apply]

theorem scale_apply : k0_pay3 x (ix2 h b) = scaleOf fun d => x (ix3 h d b) := by
  unfold scaleOf k0_pay3
  rw [← peak_apply x h b]
  dsimp only
  rw [select_apply, cmpf_apply, divf_apply]
  generalize multiReduction .maximumf [1] S4x128 (absf (k0_pay2 x)) 0xFF800000#32 reduces_S4x64x128_S4x128 (.inl rfl) rfl (ix2 h b) = p
  rfl

/-- A row's value spread over the row's elements. -/
theorem spread {φ : FTy} (y : FVec Ideal S4x128 φ) :
    broadcastTo S4x64x128 (shapeCast S4x1x128 y shapeCasts_S4x128_S4x1x128) broadcasts_S4x1x128_S4x64x128 (ix3 h d b) = y (ix2 h b) := by
  refine (broadcastTo_apply _ _ _ (ix3 h (0 : Fin 1) b) (fun a => by match a with | ⟨0, _⟩ => rfl | ⟨1, _⟩ => rfl | ⟨2, _⟩ => rfl)).trans ?_
  refine shapeCast_apply _ _ _ (ix2 h b) ?_
  rw [Shape.rowMajor_val_three, Shape.rowMajor_val_two]
  show h.val * 128 + b.val = (h.val * 1 + 0) * 128 + b.val
  omega

/-- The conversion of a quotient to its code, element by element. -/
theorem code_elem {s : Shape} (z y : FVec Ideal s .f32) (i : s.Idx) :
    fptosi 8 (minimumf (broadcast s (Scalar.ofBits .f32 0x42FE0000#32)) (maximumf (broadcast s (Scalar.ofBits .f32 0xC2FE0000#32))
      (roundeven (divf z y)))) i = codeOf (z i) (y i) := rfl

theorem code_apply : k0_pay4 x (ix3 h d b) = codeOf (x (ix3 h d b)) (scaleOf fun d => x (ix3 h d b)) := by
  refine (code_elem _ _ _).trans ?_
  rw [spread, scale_apply, elem_apply]

theorem kept_apply : k0_pay5 x (ix2 (⟨64 * h.val + d.val, by omega⟩ : Fin 256) b)
    = ofCode (codeOf (x (ix3 h d b)) (scaleOf fun d => x (ix3 h d b))) * scaleOf fun d => x (ix3 h d b) := by
  unfold k0_pay5
  refine (shapeCast_apply _ _ _ _ rfl).trans ?_
  refine (shapeCast_apply _ _ _ (ix3 h d b) ?_).trans ?_
  · rw [Shape.rowMajor_val_three, Shape.rowMajor_val_two]
    show (h.val * 64 + d.val) * 128 + b.val = (64 * h.val + d.val) * 128 + b.val
    omega
  rw [mulf_apply, sitofp_apply, code_apply, spread, truncf_apply, scale_apply]
  rfl

end Cert.KernelIdeal.Value

end
-- ==== Proof.Value.KernelBlocks.lean ====
/- What the kernel's buffers hold after a point, of the blocks of its inputs. -/
module

public import proofs.«01_k».proof.Proof.Body.Run
public import proofs.«01_k».proof.Proof.Value.Step
public import proofs.«01_k».proof.Proof.Value.Quantise
public import Idealize.ShloMosaic.Lib.Pipeline.ValueKit

@[expose] public section

noncomputable section

namespace Cert.KernelIdeal.Value

open Cert.KernelIdeal Cert.KernelIdeal.Gen Cert.KernelIdeal.Body Idealize.ShloMosaic.ValueIdx Idealize.ShloMosaic.TcCoe Idealize.SL.Sem
open Idealize.ShloMosaic hiding ix1 ix2 ix3 ix4
open Idealize.ShloMosaic.Pipeline (Dat)
open Cert.Value

variable (m : (ℓ : Loc nD τ sig) → Buf (Elt Ideal) ℓ) (c : Dev nD)

/-! ## The new tokens, quantised at the first point -/

theorem keyCodes_eq : keyCodes m c = k0_pay4 (iblk m c 1 first) := by
  unfold keyCodes leaves firstRun runFirst
  dsimp only
  frame_out

theorem keyScales_eq : keyScales m c = k0_pay3 (iblk m c 1 first) := by
  unfold keyScales leaves firstRun runFirst
  dsimp only
  frame_out

theorem newKeys_eq : newKeys m c = k0_pay5 (iblk m c 1 first) := by
  unfold newKeys leaves firstRun runFirst
  dsimp only
  frame_out

theorem valCodes_eq : valCodes m c = k0_pay4 (iblk m c 2 first) := by
  unfold valCodes leaves firstRun runFirst
  dsimp only
  frame_out
  exact codes_same _

theorem valScales_eq : valScales m c = k0_pay3 (iblk m c 2 first) := by
  unfold valScales leaves firstRun runFirst
  dsimp only
  frame_out
  exact scales_same _

theorem newVals_eq : newVals m c = k0_pay5 (iblk m c 2 first) := by
  unfold newVals leaves firstRun runFirst
  dsimp only
  frame_out
  exact wide_same _

/-! ## The attention of a point's sequences -/

theorem later_eq (t : Fin cfg0.N) (h : ¬isFirst (grid0.coords t)) :
    attended m c t = View.canon (pieces (BitVec.ofNat 32 (grid0.coords t 0)) (iblk m c 0 t) (iblk m c 3 t) (iblk m c 4 t) (iblk m c 5 t) (iblk m c 6 t)
      (newKeys m c) (newVals m c)) := by
  rw [attended_later m c t h]
  unfold leaves laterRun runLater
  dsimp only
  frame_out
  have e0 : View.read (Elt Ideal) (View.whole cc0_scratch0) ((Memref.isWhole_whole cc0_scratch0).unread (newKeys m c)) = newKeys m c :=
    (Memref.isWhole_whole cc0_scratch0).read_unread _
  have e1 : View.read (Elt Ideal) (View.whole cc0_scratch1) ((Memref.isWhole_whole cc0_scratch1).unread (newVals m c)) = newVals m c :=
    (Memref.isWhole_whole cc0_scratch1).read_unread _
  rw [e0, e1]
  rfl

theorem first_eq (t : Fin cfg0.N) (h : isFirst (grid0.coords t)) :
    attended m c t = View.canon (pieces (BitVec.ofNat 32 (grid0.coords t 0)) (iblk m c 0 t) (iblk m c 3 t) (iblk m c 4 t) (iblk m c 5 t) (iblk m c 6 t)
      (newKeys m c) (newVals m c)) := by
  obtain rfl := eq_first h
  rw [attended_first m c first h, newKeys_eq, newVals_eq]
  unfold leaves firstRun runFirst
  dsimp only
  frame_out
  rfl

theorem attended_eq (t : Fin cfg0.N) :
    attended m c t = View.canon (pieces (BitVec.ofNat 32 (grid0.coords t 0)) (iblk m c 0 t) (iblk m c 3 t) (iblk m c 4 t) (iblk m c 5 t) (iblk m c 6 t)
      (newKeys m c) (newVals m c)) := by
  by_cases h : isFirst (grid0.coords t)
  · exact first_eq m c t h
  · exact later_eq m c t h

end Cert.KernelIdeal.Value

end
-- ==== Proof.Value.Spec.lean ====
/- What both programs compute, of the seven arguments: the codes and scales of the new keys and values, and the attention of one
   query over the cache and the new token. -/
module

public import proofs.«01_k».proof.Proof.Value.Attention
public import Idealize.ShloMosaic.Lib.ValueLayout

@[expose] public section

noncomputable section

namespace Cert.Value

open Idealize.ShloMosaic Idealize.ShloMosaic.ValueIdx

/-- The scale of key head `h` of sequence `b`. -/
def newScale (x : Vec Ideal ⟨4, ![128, 1, 4, 64]⟩ .bf16) (h : Fin 4) (b : Fin 128) : EReal :=
  scaleOf fun d => x (ix4 b (0 : Fin 1) h d)

/-- The code of an element of it. -/
def newCode (x : Vec Ideal ⟨4, ![128, 1, 4, 64]⟩ .bf16) (h : Fin 4) (d : Fin 64) (b : Fin 128) : BitVec 8 :=
  codeOf (x (ix4 b (0 : Fin 1) h d)) (newScale x h b)

/-- The element, dequantised. -/
def newElem (x : Vec Ideal ⟨4, ![128, 1, 4, 64]⟩ .bf16) (h : Fin 4) (d : Fin 64) (b : Fin 128) : EReal :=
  ofCode (newCode x h d b) * newScale x h b

/-- A cached element, dequantised. -/
def oldElem (codes : Vec Ideal ⟨4, ![128, 4096, 4, 64]⟩ .i8) (scales : Vec Ideal ⟨3, ![128, 4096, 4]⟩ .f32) (b : Fin 128) (h : Fin 4)
    (t : Fin 4096) (d : Fin 64) : EReal :=
  ofCode (codes (ix4 b t h d)) * scales (ix3 b t h)

/-- Query head `4 h + g` of sequence `b`. -/
def query (x : Vec Ideal ⟨3, ![128, 1, 1024]⟩ .bf16) (b : Fin 128) (h g : Fin 4) (d : Fin 64) : EReal :=
  x (ix3 b (0 : Fin 1) (⟨(4 * h.val + g.val) * 64 + d.val, by omega⟩ : Fin 1024))

/-- Element `e` of the attention of query head `4 h + g` of sequence `b`. -/
def answer (x : Vec Ideal ⟨3, ![128, 1, 1024]⟩ .bf16) (k v : Vec Ideal ⟨4, ![128, 1, 4, 64]⟩ .bf16)
    (kc : Vec Ideal ⟨4, ![128, 4096, 4, 64]⟩ .i8) (ks : Vec Ideal ⟨3, ![128, 4096, 4]⟩ .f32)
    (vc : Vec Ideal ⟨4, ![128, 4096, 4, 64]⟩ .i8) (vs : Vec Ideal ⟨3, ![128, 4096, 4]⟩ .f32)
    (b : Fin 128) (h g : Fin 4) (e : Fin 64) : EReal :=
  attend (fun t => score (query x b h g) fun d => oldElem kc ks b h t d) (score (query x b h g) fun d => newElem k h d b)
    (fun t => oldElem vc vs b h t e) (newElem v h e b)

end Cert.Value

end
-- ==== Proof.Value.KernelArrays.lean ====
/- The five arrays of the kernel's launch, of the arguments. -/
module

public import proofs.«01_k».proof.Proof.Value.KernelBlocks
public import proofs.«01_k».proof.Proof.Value.Spec

@[expose] public section

noncomputable section

namespace Cert.KernelIdeal.Value

open Cert.KernelIdeal Cert.KernelIdeal.Gen Cert.KernelIdeal.Body Idealize.ShloMosaic.ValueIdx Idealize.ShloMosaic.TcCoe Idealize.SL.Sem
open Idealize.ShloMosaic hiding ix1 ix2 ix3 ix4
open Idealize.ShloMosaic.Pipeline (Dat)
open Cert.Value

variable (m : (ℓ : Loc nD τ sig) → Buf (Elt Ideal) ℓ) (c : Dev nD)

/-! ## The launch's inputs, of the arguments -/

/-- New tokens, heads and elements first. -/
theorem tokens (x : S128x1x4x64.Idx → EReal) (hs : S128x1x4x64.ShapeCasts S128x4x64) (ht : S128x4x64.Transposes [1, 2, 0] S4x64x128)
    (h : Fin 4) (d : Fin 64) (b : Fin 128) :
    transpose S4x64x128 [1, 2, 0] (shapeCast S128x4x64 x hs) ht (ix3 h d b) = x (ix4 b (0 : Fin 1) h d) := by
  refine (transpose_apply (t := S4x64x128) _ _ ht (ix3 h d b) (ix3 b h d)
    (fun a => by match a with | ⟨0, _⟩ => rfl | ⟨1, _⟩ => rfl | ⟨2, _⟩ => rfl)).trans ?_
  refine shapeCast_apply _ _ _ _ ?_
  rw [Shape.rowMajor_val_four, Shape.rowMajor_val_three]
  show ((b.val * 1 + 0) * 4 + h.val) * 64 + d.val = (b.val * 4 + h.val) * 64 + d.val
  omega

theorem in0 (b : Fin 128) (h g : Fin 4) (d : Fin 64) :
    (V m c main_v0 : Vec Ideal S128x16x64 .bf16) (ix3 b (⟨4 * h.val + g.val, by omega⟩ : Fin 16) d) = query (m ((c : Thread nD τ).loc main_arg0)) b h g d := by
  entry_read
  refine shapeCast_apply _ _ _ (ix3 b (0 : Fin 1) (⟨(4 * h.val + g.val) * 64 + d.val, by omega⟩ : Fin 1024)) ?_
  refine (Shape.rowMajor_val_three _).trans (Eq.trans ?_ (Shape.rowMajor_val_three _).symm)
  show (b.val * 1 + 0) * 1024 + ((4 * h.val + g.val) * 64 + d.val) = (b.val * 16 + (4 * h.val + g.val)) * 64 + d.val
  omega

theorem in1 (h : Fin 4) (d : Fin 64) (b : Fin 128) :
    (V m c main_v2 : Vec Ideal S4x64x128 .bf16) (ix3 h d b) = m ((c : Thread nD τ).loc main_arg1) (ix4 b (0 : Fin 1) h d) := by
  entry_read
  exact tokens _ _ _ h d b

theorem in2 (h : Fin 4) (d : Fin 64) (b : Fin 128) :
    (V m c main_v4 : Vec Ideal S4x64x128 .bf16) (ix3 h d b) = m ((c : Thread nD τ).loc main_arg2) (ix4 b (0 : Fin 1) h d) := by
  entry_read
  exact tokens _ _ _ h d b

theorem in3 (b : Fin 128) (h : Fin 4) (d : Fin 64) (t : Fin 4096) :
    (V m c main_v5 : Vec Ideal S128x4x64x4096 .i8) (ix4 b h d t) = m ((c : Thread nD τ).loc main_arg3) (ix4 b t h d) := by
  entry_read
  exact transpose_apply _ _ _ _ _ (fun a => by match a with | ⟨0, _⟩ => rfl | ⟨1, _⟩ => rfl | ⟨2, _⟩ => rfl | ⟨3, _⟩ => rfl)

theorem in4 (b : Fin 128) (h : Fin 4) (t : Fin 4096) :
    (V m c main_v6 : Vec Ideal S128x4x4096 .f32) (ix3 b h t) = m ((c : Thread nD τ).loc main_arg4) (ix3 b t h) := by
  entry_read
  exact transpose_apply _ _ _ _ _ (fun a => by match a with | ⟨0, _⟩ => rfl | ⟨1, _⟩ => rfl | ⟨2, _⟩ => rfl)

theorem in5 (b : Fin 128) (h : Fin 4) (d : Fin 64) (t : Fin 4096) :
    (V m c main_v7 : Vec Ideal S128x4x64x4096 .i8) (ix4 b h d t) = m ((c : Thread nD τ).loc main_arg5) (ix4 b t h d) := by
  entry_read
  exact transpose_apply _ _ _ _ _ (fun a => by match a with | ⟨0, _⟩ => rfl | ⟨1, _⟩ => rfl | ⟨2, _⟩ => rfl | ⟨3, _⟩ => rfl)

theorem in6 (b : Fin 128) (h : Fin 4) (t : Fin 4096) :
    (V m c main_v8 : Vec Ideal S128x4x4096 .f32) (ix3 b h t) = m ((c : Thread nD τ).loc main_arg6) (ix3 b t h) := by
  entry_read
  exact transpose_apply _ _ _ _ _ (fun a => by match a with | ⟨0, _⟩ => rfl | ⟨1, _⟩ => rfl | ⟨2, _⟩ => rfl)

/-! ## The blocks of a point -/

theorem idx : ∀ t : Fin cfg0.N, win0_0.index t = ![t.val, 0, 0] ∧ win0_1.index t = ![0, 0, 0] ∧ win0_2.index t = ![0, 0, 0]
    ∧ win0_3.index t = ![t.val, 0, 0, 0] ∧ win0_4.index t = ![t.val, 0, 0] ∧ win0_5.index t = ![t.val, 0, 0, 0] ∧ win0_6.index t = ![t.val, 0, 0]
    ∧ win0_7.index t = ![t.val, 0, 0] :=
  (by decide +kernel : ∀ t : Fin grid0.N, _)

/-- The sequence in place `i` of point `t`. -/
def seqAt (t : Fin cfg0.N) (i : Fin 4) : Fin 128 := ⟨4 * t.val + i.val, by have := Nat.lt_of_lt_of_eq t.isLt N_0; omega⟩

theorem place (t : Fin cfg0.N) (i : Fin 4) : t.val * 4 + i.val = 4 * t.val + i.val := by rw [Nat.mul_comm]

theorem block0 (t : Fin cfg0.N) (i : Fin 4) (n : Fin 16) (d : Fin 64) :
    (iblk m c 0 t : Vec Ideal S4x16x64 .bf16) (ix3 i n d) = (V m c main_v0 : Vec Ideal S128x16x64 .bf16) (ix3 (seqAt t i) n d) := by
  blk_ext [iblk, idx t, seqAt]
  exact place t i

theorem block1 (t : Fin cfg0.N) : (iblk m c 1 t : Vec Ideal S4x64x128 .bf16) = V m c main_v2 := by funext j; blk_ext [iblk, idx t]
theorem block2 (t : Fin cfg0.N) : (iblk m c 2 t : Vec Ideal S4x64x128 .bf16) = V m c main_v4 := by funext j; blk_ext [iblk, idx t]

theorem block3 (t : Fin cfg0.N) (i h : Fin 4) (d : Fin 64) (s : Fin 4096) :
    (iblk m c 3 t : Vec Ideal S4x4x64x4096 .i8) (ix4 i h d s) = (V m c main_v5 : Vec Ideal S128x4x64x4096 .i8) (ix4 (seqAt t i) h d s) := by
  blk_ext [iblk, idx t, seqAt]
  exact place t i

theorem block4 (t : Fin cfg0.N) (i h : Fin 4) (s : Fin 4096) :
    (iblk m c 4 t : Vec Ideal S4x4x4096 .f32) (ix3 i h s) = (V m c main_v6 : Vec Ideal S128x4x4096 .f32) (ix3 (seqAt t i) h s) := by
  blk_ext [iblk, idx t, seqAt]
  exact place t i

theorem block5 (t : Fin cfg0.N) (i h : Fin 4) (d : Fin 64) (s : Fin 4096) :
    (iblk m c 5 t : Vec Ideal S4x4x64x4096 .i8) (ix4 i h d s) = (V m c main_v7 : Vec Ideal S128x4x64x4096 .i8) (ix4 (seqAt t i) h d s) := by
  blk_ext [iblk, idx t, seqAt]
  exact place t i

theorem block6 (t : Fin cfg0.N) (i h : Fin 4) (s : Fin 4096) :
    (iblk m c 6 t : Vec Ideal S4x4x4096 .f32) (ix3 i h s) = (V m c main_v8 : Vec Ideal S128x4x4096 .f32) (ix3 (seqAt t i) h s) := by
  blk_ext [iblk, idx t, seqAt]
  exact place t i

/-! ## The codes and scales -/

/-- The last point, which writes the outputs 8 to 11 back. -/
def last : Fin cfg0.N := ⟨31, by rw [points]; omega⟩

theorem final8 : (dats m 0 c).arrAt 8 cfg0.N = k0_pay4 (V m c main_v2 : Vec Ideal S4x64x128 .bf16) := by
  refine (dats m 0 c).arrAt_eq_of_after_last 8 last (by decide +kernel) _ fun j => ?_
  blk_simp
  rw [after0_8, keyCodes_eq, block1]

theorem final9 : (dats m 0 c).arrAt 9 cfg0.N = k0_pay3 (V m c main_v2 : Vec Ideal S4x64x128 .bf16) := by
  refine (dats m 0 c).arrAt_eq_of_after_last 9 last (by decide +kernel) _ fun j => ?_
  blk_simp
  rw [after0_9, keyScales_eq, block1]

theorem final10 : (dats m 0 c).arrAt 10 cfg0.N = k0_pay4 (V m c main_v4 : Vec Ideal S4x64x128 .bf16) := by
  refine (dats m 0 c).arrAt_eq_of_after_last 10 last (by decide +kernel) _ fun j => ?_
  blk_simp
  rw [after0_10, valCodes_eq, block2]

theorem final11 : (dats m 0 c).arrAt 11 cfg0.N = k0_pay3 (V m c main_v4 : Vec Ideal S4x64x128 .bf16) := by
  refine (dats m 0 c).arrAt_eq_of_after_last 11 last (by decide +kernel) _ fun j => ?_
  blk_simp
  rw [after0_11, valScales_eq, block2]

theorem scale1 (h : Fin 4) (b : Fin 128) :
    (scaleOf fun d => (V m c main_v2 : Vec Ideal S4x64x128 .bf16) (ix3 h d b)) = newScale (m ((c : Thread nD τ).loc main_arg1)) h b :=
  congrArg scaleOf (funext fun d => in1 m c h d b)

theorem code1 (h : Fin 4) (d : Fin 64) (b : Fin 128) :
    codeOf ((V m c main_v2 : Vec Ideal S4x64x128 .bf16) (ix3 h d b)) (scaleOf fun d => (V m c main_v2 : Vec Ideal S4x64x128 .bf16) (ix3 h d b))
      = newCode (m ((c : Thread nD τ).loc main_arg1)) h d b :=
  congrArg₂ codeOf (in1 m c h d b) (scale1 m c h b)

theorem scale2 (h : Fin 4) (b : Fin 128) :
    (scaleOf fun d => (V m c main_v4 : Vec Ideal S4x64x128 .bf16) (ix3 h d b)) = newScale (m ((c : Thread nD τ).loc main_arg2)) h b :=
  congrArg scaleOf (funext fun d => in2 m c h d b)

theorem code2 (h : Fin 4) (d : Fin 64) (b : Fin 128) :
    codeOf ((V m c main_v4 : Vec Ideal S4x64x128 .bf16) (ix3 h d b)) (scaleOf fun d => (V m c main_v4 : Vec Ideal S4x64x128 .bf16) (ix3 h d b))
      = newCode (m ((c : Thread nD τ).loc main_arg2)) h d b :=
  congrArg₂ codeOf (in2 m c h d b) (scale2 m c h b)

theorem value8 (h : Fin 4) (d : Fin 64) (b : Fin 128) :
    (dats m 0 c).arrAt 8 cfg0.N (ix3 h d b) = newCode (m ((c : Thread nD τ).loc main_arg1)) h d b := by
  rw [final8]
  exact (code_apply _ h d b).trans (code1 m c h d b)

theorem value9 (h : Fin 4) (b : Fin 128) :
    (dats m 0 c).arrAt 9 cfg0.N (ix2 h b) = newScale (m ((c : Thread nD τ).loc main_arg1)) h b := by
  rw [final9]
  exact (scale_apply _ h b).trans (scale1 m c h b)

theorem value10 (h : Fin 4) (d : Fin 64) (b : Fin 128) :
    (dats m 0 c).arrAt 10 cfg0.N (ix3 h d b) = newCode (m ((c : Thread nD τ).loc main_arg2)) h d b := by
  rw [final10]
  exact (code_apply _ h d b).trans (code2 m c h d b)

theorem value11 (h : Fin 4) (b : Fin 128) :
    (dats m 0 c).arrAt 11 cfg0.N (ix2 h b) = newScale (m ((c : Thread nD τ).loc main_arg2)) h b := by
  rw [final11]
  exact (scale_apply _ h b).trans (scale2 m c h b)

/-! ## The attention -/

/-- The column of the new token's arrays that place `i` of point `t` takes. -/
theorem column (t : Fin cfg0.N) (i : Fin 4) :
    Scalar.addi (Scalar.muli (BitVec.ofNat 32 (grid0.coords t 0)) 4#32) (BitVec.ofNat 32 i.val) = BitVec.ofNat 32 (seqAt t i).val := by
  exact (by decide +kernel : ∀ (t : Fin grid0.N) (i : Fin 4),
    Scalar.addi (Scalar.muli (BitVec.ofNat 32 (grid0.coords t 0)) 4#32) (BitVec.ofNat 32 i.val) = BitVec.ofNat 32 (4 * t.val + i.val)) t i

/-- The answer of query head `n`. -/
def answerAt (b : Fin 128) (n : Fin 16) (e : Fin 64) : EReal :=
  answer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b (⟨n.val / 4, by omega⟩ : Fin 4) (⟨n.val % 4, by omega⟩ : Fin 4) e

theorem newKeys_apply (h : Fin 4) (d : Fin 64) (b : Fin 128) :
    newKeys m c (ix2 (⟨64 * h.val + d.val, by omega⟩ : Fin 256) b) = newElem (m ((c : Thread nD τ).loc main_arg1)) h d b := by
  rw [newKeys_eq, block1]
  exact (kept_apply _ h d b).trans (congrArg₂ (fun u w => ofCode u * w) (code1 m c h d b) (scale1 m c h b))

theorem newVals_apply (h : Fin 4) (d : Fin 64) (b : Fin 128) :
    newVals m c (ix2 (⟨64 * h.val + d.val, by omega⟩ : Fin 256) b) = newElem (m ((c : Thread nD τ).loc main_arg2)) h d b := by
  rw [newVals_eq, block2]
  exact (kept_apply _ h d b).trans (congrArg₂ (fun u w => ofCode u * w) (code2 m c h d b) (scale2 m c h b))

/-- The query of head `n` in place `i` of a point. -/
theorem query_apply (t : Fin cfg0.N) (i : Fin 4) (n : Fin 16) (d : Fin 64) :
    (iblk m c 0 t : Vec Ideal S4x16x64 .bf16) (ix3 i n d)
      = query (m ((c : Thread nD τ).loc main_arg0)) (seqAt t i) (⟨n.val / 4, by omega⟩ : Fin 4) (⟨n.val % 4, by omega⟩ : Fin 4) d := by
  refine (block0 m c t i n d).trans (Eq.trans ?_ (in0 m c (seqAt t i) _ _ d))
  exact congrArg (fun k => (V m c main_v0 : Vec Ideal S128x16x64 .bf16) (ix3 (seqAt t i) k d)) (Fin.ext (Nat.div_add_mod n.val 4).symm)

/-- What a point leaves in its block. -/
theorem attended_apply (t : Fin cfg0.N) (i : Fin 4) (n : Fin 16) (e : Fin 64) :
    attended m c t (ix3 i n e) = answerAt m c (seqAt t i) n e := by
  rw [attended_eq]
  refine (pieces_apply _ _ _ _ _ _ _ _ (seqAt t) (column t) i n e).trans ?_
  unfold blockAnswer answerAt answer
  exact congr (congr (congr (congrArg attend (funext fun s => congrArg₂ score (funext fun d => query_apply m c t i n d)
      (funext fun d => congrArg₂ (fun u w => ofCode u * w) ((block3 m c t i (⟨n.val / 4, by omega⟩ : Fin 4) d s).trans (in3 m c (seqAt t i) (⟨n.val / 4, by omega⟩ : Fin 4) d s)) ((block4 m c t i (⟨n.val / 4, by omega⟩ : Fin 4) s).trans (in4 m c (seqAt t i) (⟨n.val / 4, by omega⟩ : Fin 4) s)))))
    (congrArg₂ score (funext fun d => query_apply m c t i n d) (funext fun d => newKeys_apply m c (⟨n.val / 4, by omega⟩ : Fin 4) d (seqAt t i))))
    (funext fun s => congrArg₂ (fun u w => ofCode u * w) ((block5 m c t i (⟨n.val / 4, by omega⟩ : Fin 4) e s).trans (in5 m c (seqAt t i) (⟨n.val / 4, by omega⟩ : Fin 4) e s)) ((block6 m c t i (⟨n.val / 4, by omega⟩ : Fin 4) s).trans (in6 m c (seqAt t i) (⟨n.val / 4, by omega⟩ : Fin 4) s))))
    (newVals_apply m c (⟨n.val / 4, by omega⟩ : Fin 4) e (seqAt t i))

/-- Where an element of a point's block lies in the array. -/
theorem emb7 (t : Fin cfg0.N) (i : Fin 4) (n : Fin 16) (e : Fin 64) :
    ((win0_7.blk t).view.emb (ix3 i n e) : S128x16x64.Idx) = ix3 (seqAt t i) n e := by
  blk_ext [idx t, seqAt]
  exact place t i

/-- The same at any index of the block. -/
theorem point7 (t : Fin cfg0.N) (y : S4x16x64.Idx) (z : S128x16x64.Idx) (hz : z = (win0_7.blk t).view.emb y) :
    attended m c t y = answerAt m c (z 0) (z 1) (z 2) := by
  subst hz
  obtain ⟨i, n, e, rfl⟩ : ∃ (i : Fin 4) (n : Fin 16) (e : Fin 64), y = ix3 i n e :=
    ⟨y 0, y 1, y 2, funext fun a => by match a with | ⟨0, _⟩ => rfl | ⟨1, _⟩ => rfl | ⟨2, _⟩ => rfl⟩
  rw [show ((win0_7.blk t).view.emb (ix3 i n e) : S128x16x64.Idx) = ix3 (seqAt t i) n e from emb7 t i n e]
  exact attended_apply m c t i n e

theorem final7 : (dats m 0 c).arrAt 7 cfg0.N = fun y : S128x16x64.Idx => answerAt m c (y 0) (y 1) (y 2) := by
  refine (dats m 0 c).arrAt_eq_of_covers 7 (fun y : S128x16x64.Idx => answerAt m c (y 0) (y 1) (y 2)) (by decide +kernel) fun t hf y => ?_
  blk_simp
  rw [after0_7]
  exact point7 m c t y _ rfl

theorem value7 (b : Fin 128) (h g : Fin 4) (e : Fin 64) :
    (dats m 0 c).arrAt 7 cfg0.N (ix3 b (⟨4 * h.val + g.val, by omega⟩ : Fin 16) e)
      = answer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g e := by
  rw [final7]
  exact congrArg₂ (fun h' g' => answer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b h' g' e)
    (Fin.ext (show (4 * h.val + g.val) / 4 = h.val by omega)) (Fin.ext (show (4 * h.val + g.val) % 4 = g.val by omega))

end Cert.KernelIdeal.Value

end
-- ==== Proof.Value.KernelResults.lean ====
/- The kernel's five results after its run, of the arguments: the host lines after the launch move the elements of its five arrays. -/
module

public import proofs.«01_k».proof.Proof.Value.KernelArrays

@[expose] public section

noncomputable section

namespace Cert.KernelIdeal.Value

open Cert.KernelIdeal Cert.KernelIdeal.Gen Cert.KernelIdeal.Body Idealize.ShloMosaic.ValueIdx Idealize.ShloMosaic.TcCoe Idealize.SL.Sem
open Idealize.ShloMosaic hiding ix1 ix2 ix3 ix4
open Idealize.ShloMosaic.Pipeline (Dat)
open Cert.Value

/-! ## The host lines after the launch -/

/-- All heads of a sequence in one row. -/
def headsBack (x : Vec Ideal S128x16x64 .bf16) : Vec Ideal S128x1x1024 .bf16 := shapeCast S128x1x1024 x shapeCasts_S128x16x64_S128x1x1024

/-- Codes with the sequence first. -/
def codesBack (x : Vec Ideal S4x64x128 .i8) : Vec Ideal S128x1x4x64 .i8 :=
  shapeCast S128x1x4x64 (transpose S128x4x64 [2, 0, 1] x transposes_S4x64x128_S128x4x64_2_0_1) shapeCasts_S128x4x64_S128x1x4x64

/-- Scales with the sequence first. -/
def scalesBack (x : Vec Ideal S4x128 .f32) : Vec Ideal S128x1x4 .f32 :=
  shapeCast S128x1x4 (transpose S128x4 [1, 0] x transposes_S4x128_S128x4_1_0) shapeCasts_S128x4_S128x1x4

theorem headsBack_apply (x : Vec Ideal S128x16x64 .bf16) (b : Fin 128) (h g : Fin 4) (e : Fin 64) :
    headsBack x (ix3 b (0 : Fin 1) (⟨(4 * h.val + g.val) * 64 + e.val, by omega⟩ : Fin 1024)) = x (ix3 b (⟨4 * h.val + g.val, by omega⟩ : Fin 16) e) := by
  refine shapeCast_apply _ _ _ _ ?_
  refine (Shape.rowMajor_val_three _).trans (Eq.trans ?_ (Shape.rowMajor_val_three _).symm)
  show (b.val * 16 + (4 * h.val + g.val)) * 64 + e.val = (b.val * 1 + 0) * 1024 + ((4 * h.val + g.val) * 64 + e.val)
  omega

theorem codesBack_apply (x : Vec Ideal S4x64x128 .i8) (b : Fin 128) (h : Fin 4) (d : Fin 64) :
    codesBack x (ix4 b (0 : Fin 1) h d) = x (ix3 h d b) := by
  refine (shapeCast_apply _ _ _ (ix3 b h d) ?_).trans ?_
  · rw [Shape.rowMajor_val_four, Shape.rowMajor_val_three]
    show (b.val * 4 + h.val) * 64 + d.val = ((b.val * 1 + 0) * 4 + h.val) * 64 + d.val
    omega
  · exact transpose_apply _ _ _ _ _ (fun a => by match a with | ⟨0, _⟩ => rfl | ⟨1, _⟩ => rfl | ⟨2, _⟩ => rfl)

theorem scalesBack_apply (x : Vec Ideal S4x128 .f32) (b : Fin 128) (h : Fin 4) :
    scalesBack x (ix3 b (0 : Fin 1) h) = x (ix2 h b) := by
  refine (shapeCast_apply _ _ _ (ix2 b h) ?_).trans ?_
  · rw [Shape.rowMajor_val_three, Shape.rowMajor_val_two]
    show b.val * 4 + h.val = (b.val * 1 + 0) * 4 + h.val
    omega
  · exact transpose_apply _ _ _ _ _ (fun a => by match a with | ⟨0, _⟩ => rfl | ⟨1, _⟩ => rfl)

section Tail
variable (σ : Valuation τ sig (Elt Ideal))

theorem tail7 : (StableHlo.after hostOps1 σ (Proc.devRef .tc main_v10) : Vec Ideal S128x1x1024 .bf16) = headsBack (σ (Proc.devRef .tc main_v9_0)) := by
  entry_read
  rfl

theorem tail8 : (StableHlo.after hostOps1 σ (Proc.devRef .tc main_v12) : Vec Ideal S128x1x4x64 .i8) = codesBack (σ (Proc.devRef .tc main_v9_1)) := by
  entry_read
  rfl

theorem tail9 : (StableHlo.after hostOps1 σ (Proc.devRef .tc main_v14) : Vec Ideal S128x1x4 .f32) = scalesBack (σ (Proc.devRef .tc main_v9_2)) := by
  entry_read
  rfl

theorem tail10 : (StableHlo.after hostOps1 σ (Proc.devRef .tc main_v16) : Vec Ideal S128x1x4x64 .i8) = codesBack (σ (Proc.devRef .tc main_v9_3)) := by
  entry_read
  rfl

theorem tail11 : (StableHlo.after hostOps1 σ (Proc.devRef .tc main_v18) : Vec Ideal S128x1x4 .f32) = scalesBack (σ (Proc.devRef .tc main_v9_4)) := by
  entry_read
  rfl

end Tail

/-! ## The results -/

variable (m : (ℓ : Loc nD τ sig) → Buf (Elt Ideal) ℓ) (c : Dev nD)

/-- An array of the launch, as the host lines after it find it. -/
theorem launched (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c (V0 m c) _ w

/-- What buffer `b` holds at the end. -/
abbrev atEnd (b : Ref sig .tc) : Buf (Elt Ideal) ((c : Thread nD τ).loc b) := Pipeline.afterTail₀ cfgs (dats m) 0 (V0 m) [hostOps1] c b

theorem result7 (b : Fin 128) (h g : Fin 4) (e : Fin 64) :
    (atEnd m c main_v10 : Vec Ideal S128x1x1024 .bf16) (ix3 b (0 : Fin 1) (⟨(4 * h.val + g.val) * 64 + e.val, by omega⟩ : Fin 1024))
      = answer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g e := by
  refine (congrFun ((tail7 _).trans (congrArg headsBack (launched m c 7))) _).trans ?_
  exact (headsBack_apply _ b h g e).trans (value7 m c b h g e)

theorem result8 (b : Fin 128) (h : Fin 4) (d : Fin 64) :
    (atEnd m c main_v12 : Vec Ideal S128x1x4x64 .i8) (ix4 b (0 : Fin 1) h d) = newCode (m ((c : Thread nD τ).loc main_arg1)) h d b := by
  refine (congrFun ((tail8 _).trans (congrArg codesBack (launched m c 8))) _).trans ?_
  exact (codesBack_apply _ b h d).trans (value8 m c h d b)

theorem result9 (b : Fin 128) (h : Fin 4) :
    (atEnd m c main_v14 : Vec Ideal S128x1x4 .f32) (ix3 b (0 : Fin 1) h) = newScale (m ((c : Thread nD τ).loc main_arg1)) h b := by
  refine (congrFun ((tail9 _).trans (congrArg scalesBack (launched m c 9))) _).trans ?_
  exact (scalesBack_apply _ b h).trans (value9 m c h b)

theorem result10 (b : Fin 128) (h : Fin 4) (d : Fin 64) :
    (atEnd m c main_v16 : Vec Ideal S128x1x4x64 .i8) (ix4 b (0 : Fin 1) h d) = newCode (m ((c : Thread nD τ).loc main_arg2)) h d b := by
  refine (congrFun ((tail10 _).trans (congrArg codesBack (launched m c 10))) _).trans ?_
  exact (codesBack_apply _ b h d).trans (value10 m c h d b)

theorem result11 (b : Fin 128) (h : Fin 4) :
    (atEnd m c main_v18 : Vec Ideal S128x1x4 .f32) (ix3 b (0 : Fin 1) h) = newScale (m ((c : Thread nD τ).loc main_arg2)) h b := by
  refine (congrFun ((tail11 _).trans (congrArg scalesBack (launched m c 11))) _).trans ?_
  exact (scalesBack_apply _ b h).trans (value11 m c h b)

/-! ## The run -/

/-- After the run each result is as above, and the arguments are as launched. -/
theorem run_results (ρ : Dev nD → PrngReg) : θ_run defs (onTc (τ := τ) (main (F := Ideal))) ⟨m, fun _ => 0, ρ⟩ fun r => ∀ c : Dev nD,
      r.2.mem ((c : Thread nD τ).loc main_v10) = atEnd m c main_v10
      ∧ r.2.mem ((c : Thread nD τ).loc main_v12) = atEnd m c main_v12
      ∧ r.2.mem ((c : Thread nD τ).loc main_v14) = atEnd m c main_v14
      ∧ r.2.mem ((c : Thread nD τ).loc main_v16) = atEnd m c main_v16
      ∧ r.2.mem ((c : Thread nD τ).loc main_v18) = atEnd m c main_v18
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).2 main_v10 (Pipeline.mem_restRefs_of main_v10 (by decide) (by decide)),
      (h c).2 main_v12 (Pipeline.mem_restRefs_of main_v12 (by decide) (by decide)),
      (h c).2 main_v14 (Pipeline.mem_restRefs_of main_v14 (by decide) (by decide)),
      (h c).2 main_v16 (Pipeline.mem_restRefs_of main_v16 (by decide) (by decide)),
      (h c).2 main_v18 (Pipeline.mem_restRefs_of main_v18 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Value

end
-- ==== Proof.Value.Reference.lean ====
/- The reference's arithmetic at an index: its quantiser, and its softmax over the 4097 tokens of one key head as the attention over
   the cache and one new token. -/
module

public import proofs.«01_k».proof.Proof.Gen.ReferenceIdeal.Skeleton
public import proofs.«01_k».proof.Proof.Value.Quantise
public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

open scoped BigOperators

namespace Cert.ReferenceIdeal.Value

open Idealize.ShloMosaic Idealize.ShloMosaic.ValueIdx Cert.ReferenceIdeal Cert.ReferenceIdeal.Gen Cert.Value
open Cert.KernelIdeal.Value (code_elem)

/-! ## The quantiser -/

section Same
variable {F : FTy → Type} [FloatOps F] (x : Vec F S512x64 .bf16)

/-- The new values are quantised as the new keys are. -/
theorem scales_same : k0_pay6 x = k0_pay3 x := rfl
theorem codes_same : k0_pay7 x = k0_pay4 x := rfl

end Same

section Quantiser
variable (x : Vec Ideal S512x64 .bf16) (r : Fin 512) (d : Fin 64)

theorem elem_apply : k0_pay2 x (ix2 r d) = x (ix2 r d) := by
  unfold k0_pay2
  rw [extf_apply]
  exact shapeCast_apply _ _ _ _ rfl

theorem peak_apply : multiReduction .maximumf [1] S512 (absf (k0_pay2 x)) 0xFF800000#32 reduces_S512x64_S512 (.inl rfl) rfl (ix1 r)
    = Finset.univ.sup fun d : Fin 64 => max (x (ix2 r d)) (-(x (ix2 r d))) := by
  refine (Ideal.multiReduction_maximumf_single _ _ _ _ _ _).trans ?_
  refine (congrArg (fun b => Finset.univ.fold max b _) negInf).trans ?_
  refine (fold_max_bot _).trans (congrArg _ (funext fun (t : Fin 64) => ?_))
  have e : (reduces_S512x64_S512.lift (ix1 r) t : S512x64.Idx) = ix2 r t := funext fun a => by
    match a with | ⟨0, _⟩ => rfl | ⟨1, _⟩ => rfl
  show max (k0_pay2 x _) (-(k0_pay2 x _)) = _
  rw [e, elem_apply]

theorem scale_apply : k0_pay3 x (ix1 r) = scaleOf fun d => x (ix2 r d) := by
  unfold scaleOf k0_pay3
  rw [← peak_apply x r]
  dsimp only
  rw [select_apply, cmpf_apply, divf_apply]
  generalize multiReduction .maximumf [1] S512 (absf (k0_pay2 x)) 0xFF800000#32 reduces_S512x64_S512 (.inl rfl) rfl (ix1 r) = p
  rfl

/-- A row's value spread over the row's elements. -/
theorem spread {φ : FTy} (y : FVec Ideal S512 φ) :
    broadcastTo S512x64 (shapeCast S512x1 y shapeCasts_S512_S512x1) broadcasts_S512x1_S512x64 (ix2 r d) = y (ix1 r) := by
  refine (broadcastTo_apply _ _ _ (ix2 r (0 : Fin 1)) (fun a => by match a with | ⟨0, _⟩ => rfl | ⟨1, _⟩ => rfl)).trans ?_
  exact shapeCast_a_a1_apply _ _ _ _

theorem code_apply : k0_pay4 x (ix2 r d) = codeOf (x (ix2 r d)) (scaleOf fun d => x (ix2 r d)) := by
  refine (code_elem _ _ _).trans ?_
  rw [spread, scale_apply, elem_apply]

end Quantiser

section Stored
variable (x : Vec Ideal S512x64 .bf16) (h : Fin 4) (d : Fin 64) (b : Fin 128)

/-- The row of key head `h` of sequence `b`. -/
abbrev rowOf (b : Fin 128) (h : Fin 4) : Fin 512 := ⟨4 * b.val + h.val, by omega⟩

/-- The codes as they are stored. -/
theorem storedCode_apply : k0_pay8 x (ix4 b (0 : Fin 1) h d) = codeOf (x (ix2 (rowOf b h) d)) (scaleOf fun d => x (ix2 (rowOf b h) d)) := by
  unfold k0_pay8
  refine (shapeCast_apply _ _ _ (ix2 (rowOf b h) d) ?_).trans (code_apply x _ d)
  rw [Shape.rowMajor_val_four, Shape.rowMajor_val_two]
  show (4 * b.val + h.val) * 64 + d.val = ((b.val * 1 + 0) * 4 + h.val) * 64 + d.val
  omega

/-- The scales as they are stored. -/
theorem storedScale_apply : k0_pay9 (k0_pay3 x) (ix3 b (0 : Fin 1) h) = scaleOf fun d => x (ix2 (rowOf b h) d) := by
  unfold k0_pay9
  refine (shapeCast_apply _ _ _ (ix1 (rowOf b h)) ?_).trans (scale_apply x _)
  rw [Shape.rowMajor_val_one, Shape.rowMajor_val_three]
  show 4 * b.val + h.val = (b.val * 1 + 0) * 4 + h.val
  omega

end Stored

/-! ## The tokens -/

/-- The cached tokens, dequantised. -/
theorem past_apply (kc : Vec Ideal S512x4096x64 .i8) (ks : Vec Ideal S512x4096 .f32) (r : Fin 512) (t : Fin 4096) (d : Fin 64) :
    k0_pay13 kc ks (ix3 r t d) = ofCode (kc (ix3 r t d)) * ks (ix2 r t) := by
  unfold k0_pay13
  rw [mulf_apply, sitofp_apply]
  refine (congrArg₂ (fun (u : BitVec 8) (w : EReal) => ofCode u * w) (shapeCast_apply _ _ _ _ rfl) ?_)
  refine (broadcastTo_apply _ _ _ (ix3 r t (0 : Fin 1)) (fun a => by match a with | ⟨0, _⟩ => rfl | ⟨1, _⟩ => rfl | ⟨2, _⟩ => rfl)).trans ?_
  rw [truncf_apply]
  refine (shapeCast_apply _ _ _ (ix2 r t) ?_).trans (shapeCast_apply _ _ _ _ rfl)
  rw [Shape.rowMajor_val_three, Shape.rowMajor_val_two]
  show r.val * 4096 + t.val = (r.val * 4096 + t.val) * 1 + 0
  omega

/-- The cached tokens followed by the new one. -/
abbrev all (past : FVec Ideal S512x4096x64 .bf16) (new : FVec Ideal S512x64 .bf16) : FVec Ideal S512x4097x64 .bf16 :=
  concatenate S512x4097x64 1 [⟨S512x4096x64, past⟩, ⟨S512x1x64, shapeCast S512x1x64 new shapeCasts_S512x64_S512x1x64⟩]
    concatenates_S512x4096x64_S512x1x64_S512x4097x64_d1

theorem all_past (past : FVec Ideal S512x4096x64 .bf16) (new : FVec Ideal S512x64 .bf16) (r : Fin 512) (t : Fin 4096) (d : Fin 64) :
    all past new (ix3 r t.castSucc d) = past (ix3 r t d) :=
  concatenate_pair_apply_left (1 : Fin 3) past _ _ (ix3 r t.castSucc d) rfl (ix3 r t d) (fun a => by match a with | ⟨0, _⟩ => rfl | ⟨1, _⟩ => rfl | ⟨2, _⟩ => rfl)

theorem all_new (past : FVec Ideal S512x4096x64 .bf16) (new : FVec Ideal S512x64 .bf16) (r : Fin 512) (d : Fin 64) :
    all past new (ix3 r (Fin.last 4096) d) = new (ix2 r d) := by
  have e := concatenate_pair_apply_right (t := S512x4097x64) (s₁ := S512x4096x64) (s₂ := S512x1x64) (1 : Fin 3) past
    (shapeCast S512x1x64 new shapeCasts_S512x64_S512x1x64) concatenates_S512x4096x64_S512x1x64_S512x4097x64_d1
    (ix3 r (Fin.last 4096) d) rfl rfl (ix3 r (0 : Fin 1) d)
    (fun a ha => by match a with | ⟨0, _⟩ => rfl | ⟨1, _⟩ => exact absurd rfl ha | ⟨2, _⟩ => rfl) (Nat.zero_add 4096)
  refine e.trans ?_
  refine shapeCast_apply _ _ _ _ ?_
  rw [Shape.rowMajor_val_three, Shape.rowMajor_val_two]
  show r.val * 64 + d.val = (r.val * 1 + 0) * 64 + d.val
  omega

/-- The new token's key or value, dequantised. -/
def fresh (x : Vec Ideal S512x64 .bf16) : FVec Ideal S512x64 .bf16 :=
  mulf (sitofp .bf16 (k0_pay4 x)) (broadcastTo S512x64 (truncf .bf16 (shapeCast S512x1 (k0_pay3 x) shapeCasts_S512_S512x1) bitsLt_bf16_f32)
    broadcasts_S512x1_S512x64)

theorem fresh_apply (x : Vec Ideal S512x64 .bf16) (r : Fin 512) (d : Fin 64) :
    fresh x (ix2 r d) = ofCode (codeOf (x (ix2 r d)) (scaleOf fun d => x (ix2 r d))) * scaleOf fun d => x (ix2 r d) := by
  unfold fresh
  rw [mulf_apply, sitofp_apply, code_apply]
  refine congrArg (ofCode (codeOf (x (ix2 r d)) (scaleOf fun d => x (ix2 r d))) * ·) ?_
  refine (broadcastTo_apply _ _ _ (ix2 r (0 : Fin 1)) (fun a => by match a with | ⟨0, _⟩ => rfl | ⟨1, _⟩ => rfl)).trans ?_
  rw [truncf_apply]
  exact (shapeCast_a_a1_apply _ _ _ _).trans (scale_apply x r)

theorem keys_eq (x : Vec Ideal S512x64 .bf16) (kc : Vec Ideal S512x4096x64 .i8) (ks : Vec Ideal S512x4096 .f32) :
    k0_pay12 (k0_pay3 x) (k0_pay4 x) kc ks = all (k0_pay13 kc ks) (fresh x) := rfl

/-! ## The attention -/

theorem dotKeys_apply (L : FVec Ideal S512x4x64 .bf16) (R : FVec Ideal S512x4097x64 .bf16) (r : Fin 512) (g : Fin 4) (t : Fin 4097) :
    matmul dot_S512x4x64_S512x4097x64_S512x4x4097_2_2_1_1_0_0 none L R (constant S512x4x4097 .f32 0x00000000#32) (ix3 r g t)
      = ∑ d : Fin 64, L (ix3 r g d) * R (ix3 r t d) := by
  refine (Ideal.matmul_constant_zero_apply _ none _ _ _).trans ?_
  rw [← Equiv.sum_comp (contrEquiv1 dot_S512x4x64_S512x4097x64_S512x4x4097_2_2_1_1_0_0 64 rfl rfl).symm]
  refine Finset.sum_congr rfl fun c _ => ?_
  congr 1
  · refine congrArg L (funext fun b => ?_); match b with | ⟨0, _⟩ => rfl | ⟨1, _⟩ => rfl | ⟨2, _⟩ => rfl
  · refine congrArg R (funext fun b => ?_); match b with | ⟨0, _⟩ => rfl | ⟨1, _⟩ => rfl | ⟨2, _⟩ => rfl

theorem dotValues_apply (L : FVec Ideal S512x4x4097 .f32) (R : FVec Ideal S512x4097x64 .f32) (r : Fin 512) (g : Fin 4) (e : Fin 64) :
    matmul dot_S512x4x4097_S512x4097x64_S512x4x64_2_1_1_2_0_0 none L R (constant S512x4x64 .f32 0x00000000#32) (ix3 r g e)
      = ∑ t : Fin 4097, L (ix3 r g t) * R (ix3 r t e) := by
  refine (Ideal.matmul_constant_zero_apply _ none _ _ _).trans ?_
  rw [← Equiv.sum_comp (contrEquiv1 dot_S512x4x4097_S512x4097x64_S512x4x64_2_1_1_2_0_0 4097 rfl rfl).symm]
  refine Finset.sum_congr rfl fun c _ => ?_
  congr 1
  · refine congrArg L (funext fun b => ?_); match b with | ⟨0, _⟩ => rfl | ⟨1, _⟩ => rfl | ⟨2, _⟩ => rfl
  · refine congrArg R (funext fun b => ?_); match b with | ⟨0, _⟩ => rfl | ⟨1, _⟩ => rfl | ⟨2, _⟩ => rfl

/-- A row's value along any last axis. -/
theorem along {m : ℕ} (y : FVec Ideal S512x4 .f32) (hb : S512x4x1.Broadcasts ⟨3, ![512, 4, m]⟩) (r : Fin 512) (g : Fin 4) (t : Fin m) :
    broadcastTo ⟨3, ![512, 4, m]⟩ (shapeCast S512x4x1 y shapeCasts_S512x4_S512x4x1) hb (ix3 r g t) = y (ix2 r g) := by
  refine (broadcastTo_apply _ _ _ (ix3 r g (0 : Fin 1)) (fun a => by match a with | ⟨0, _⟩ => rfl | ⟨1, _⟩ => rfl | ⟨2, _⟩ => rfl)).trans ?_
  refine shapeCast_apply _ _ _ _ ?_
  rw [Shape.rowMajor_val_three, Shape.rowMajor_val_two]
  show r.val * 4 + g.val = (r.val * 4 + g.val) * 1 + 0
  omega

theorem rowMax_apply (s : FVec Ideal S512x4x4097 .f32) (r : Fin 512) (g : Fin 4) :
    multiReduction .maximumf [2] S512x4 s 0xFF800000#32 reduces_S512x4x4097_S512x4 (.inl rfl) rfl (ix2 r g)
      = Finset.univ.sup fun t : Fin 4097 => s (ix3 r g t) := by
  refine (Ideal.multiReduction_maximumf_single s _ _ _ _ _).trans ?_
  refine (congrArg (fun b => Finset.univ.fold max b _) negInf).trans ?_
  refine (fold_max_bot _).trans (congrArg _ (funext fun (t : Fin 4097) => congrArg s (funext fun b => ?_)))
  match b with | ⟨0, _⟩ => rfl | ⟨1, _⟩ => rfl | ⟨2, _⟩ => rfl

theorem rowSum_apply (s : FVec Ideal S512x4x4097 .f32) (r : Fin 512) (g : Fin 4) :
    multiReduction .add [2] S512x4 s 0x00000000#32 reduces_S512x4x4097_S512x4 (.inl rfl) rfl (ix2 r g)
      = ∑ t : Fin 4097, s (ix3 r g t) := by
  refine (Ideal.multiReduction_add_single s _ _ _ _ _).trans ?_
  refine Finset.sum_congr rfl fun (t : Fin 4097) _ => congrArg s (funext fun b => ?_)
  match b with | ⟨0, _⟩ => rfl | ⟨1, _⟩ => rfl | ⟨2, _⟩ => rfl

/-- The scores of one key head's queries. -/
def scores (q : Vec Ideal S512x4x64 .bf16) (K : FVec Ideal S512x4097x64 .bf16) : FVec Ideal S512x4x4097 .f32 :=
  mulf (matmul dot_S512x4x64_S512x4097x64_S512x4x4097_2_2_1_1_0_0 none (shapeCast S512x4x64 q shapeCasts_S512x4x64_S512x4x64 : FVec Ideal S512x4x64 .bf16) K
    (constant S512x4x4097 .f32 0x00000000#32)) (broadcast S512x4x4097 (Scalar.ofBits .f32 0x3E000000#32))

theorem scores_apply (q : Vec Ideal S512x4x64 .bf16) (K : FVec Ideal S512x4097x64 .bf16) (r : Fin 512) (g : Fin 4) (t : Fin 4097) :
    scores q K (ix3 r g t) = score (fun d => q (ix3 r g d)) fun d => K (ix3 r t d) := by
  unfold scores
  rw [mulf_apply, dotKeys_apply]
  unfold score
  refine congrArg (· * _) (Finset.sum_congr rfl fun d _ => congrArg (· * _) (shapeCast_apply _ _ _ _ rfl))

/-- The weights of one key head's queries. -/
def weights (s : FVec Ideal S512x4x4097 .f32) : FVec Ideal S512x4x4097 .f32 :=
  exp (subf s (broadcastTo S512x4x4097 (shapeCast S512x4x1 (multiReduction .maximumf [2] S512x4 s 0xFF800000#32 reduces_S512x4x4097_S512x4 (.inl rfl) rfl)
    shapeCasts_S512x4_S512x4x1) broadcasts_S512x4x1_S512x4x4097))

theorem weights_apply (s : FVec Ideal S512x4x4097 .f32) (r : Fin 512) (g : Fin 4) (t : Fin 4097) :
    weights s (ix3 r g t) = Ideal.exp (s (ix3 r g t) - Finset.univ.sup fun t => s (ix3 r g t)) :=
  congrArg (fun z => Ideal.exp (s (ix3 r g t) - z)) ((along _ _ r g t).trans (rowMax_apply s r g))

/-- The softmax over all tokens. -/
def soft (s : FVec Ideal S512x4x4097 .f32) (V : FVec Ideal S512x4097x64 .bf16) : FVec Ideal S512x4x64 .bf16 :=
  truncf .bf16 (divf (matmul dot_S512x4x4097_S512x4097x64_S512x4x64_2_1_1_2_0_0 none (weights s) (extf .f32 V bitsLt_bf16_f32)
      (constant S512x4x64 .f32 0x00000000#32))
    (broadcastTo S512x4x64 (shapeCast S512x4x1 (multiReduction .add [2] S512x4 (weights s) 0x00000000#32 reduces_S512x4x4097_S512x4 (.inl rfl) rfl)
      shapeCasts_S512x4_S512x4x1) broadcasts_S512x4x1_S512x4x64)) bitsLt_bf16_f32

theorem soft_apply (s : FVec Ideal S512x4x4097 .f32) (V : FVec Ideal S512x4097x64 .bf16) (r : Fin 512) (g : Fin 4) (e : Fin 64) :
    soft s V (ix3 r g e) = attend (fun t => s (ix3 r g t.castSucc)) (s (ix3 r g (Fin.last 4096))) (fun t => V (ix3 r t.castSucc e)) (V (ix3 r (Fin.last 4096) e)) := by
  refine Eq.trans ?_ (attend_of_all (fun t => s (ix3 r g t)) (fun t => V (ix3 r t e)))
  unfold soft
  rw [truncf_apply, divf_apply, along, dotValues_apply, rowSum_apply]
  simp only [weights_apply]
  rfl

/-- One result of the reference: head `4 h + g` of sequence `b`. -/
theorem out_apply (kn vn : Vec Ideal S512x64 .bf16) (kc vc : Vec Ideal S512x4096x64 .i8) (ks vs : Vec Ideal S512x4096 .f32)
    (q : Vec Ideal S512x4x64 .bf16) (b : Fin 128) (h g : Fin 4) (e : Fin 64) :
    k0_pay1 (k0_pay12 (k0_pay3 kn) (k0_pay4 kn) kc ks) (k0_pay13 vc vs) (k0_pay14 (k0_pay7 vn)) (k0_pay15 (k0_pay6 vn)) q
        (ix3 b (0 : Fin 1) (⟨(4 * h.val + g.val) * 64 + e.val, by omega⟩ : Fin 1024))
      = attend (fun t => score (fun d => q (ix3 (rowOf b h) g d)) fun d => ofCode (kc (ix3 (rowOf b h) t d)) * ks (ix2 (rowOf b h) t))
          (score (fun d => q (ix3 (rowOf b h) g d)) fun d =>
            ofCode (codeOf (kn (ix2 (rowOf b h) d)) (scaleOf fun d => kn (ix2 (rowOf b h) d))) * scaleOf fun d => kn (ix2 (rowOf b h) d))
          (fun t => ofCode (vc (ix3 (rowOf b h) t e)) * vs (ix2 (rowOf b h) t))
          (ofCode (codeOf (vn (ix2 (rowOf b h) e)) (scaleOf fun d => vn (ix2 (rowOf b h) d))) * scaleOf fun d => vn (ix2 (rowOf b h) d)) := by
  have form : k0_pay1 (k0_pay12 (k0_pay3 kn) (k0_pay4 kn) kc ks) (k0_pay13 vc vs) (k0_pay14 (k0_pay7 vn)) (k0_pay15 (k0_pay6 vn)) q
      = shapeCast S128x1x1024 (soft (scores q (all (k0_pay13 kc ks) (fresh kn))) (all (k0_pay13 vc vs) (fresh vn))) shapeCasts_S512x4x64_S128x1x1024 := rfl
  rw [form]
  refine (shapeCast_apply _ _ _ (ix3 (rowOf b h) g e) ?_).trans ?_
  · rw [Shape.rowMajor_val_three, Shape.rowMajor_val_three]
    show ((4 * b.val + h.val) * 4 + g.val) * 64 + e.val = (b.val * 1 + 0) * 1024 + ((4 * h.val + g.val) * 64 + e.val)
    omega
  rw [soft_apply]
  simp only [scores_apply, all_past, all_new, past_apply, fresh_apply]

end Cert.ReferenceIdeal.Value

end
-- ==== Proof.Value.ReferenceArrays.lean ====
/- The reference's five results after its run, of the arguments. -/
module

public import proofs.«01_k».proof.Proof.Gen.ReferenceIdeal.Frame
public import proofs.«01_k».proof.Proof.Value.Reference
public import proofs.«01_k».proof.Proof.Value.Spec
public import Idealize.ShloMosaic.Lib.Pipeline.ValueKit

@[expose] public section

noncomputable section

namespace Cert.ReferenceIdeal.Value

open Cert.ReferenceIdeal Cert.ReferenceIdeal.Gen Idealize.ShloMosaic.ValueIdx Idealize.ShloMosaic.TcCoe Idealize.SL.Sem
open Idealize.ShloMosaic hiding ix1 ix2 ix3 ix4
open Idealize.ShloMosaic.Pipeline (Dat)
open Cert.Value

variable (m : (ℓ : Loc nD τ sig) → Buf (Elt Ideal) ℓ) (c : Dev nD)

/-! ## The launch's inputs, of the arguments -/

/-- New tokens, a row to each key head of each sequence. -/
theorem split4 (x : S128x1x4x64.Idx → EReal) (hs : S128x1x4x64.ShapeCasts S512x64) (b : Fin 128) (h : Fin 4) (d : Fin 64) :
    shapeCast S512x64 x hs (ix2 (rowOf b h) d) = x (ix4 b (0 : Fin 1) h d) := by
  refine shapeCast_apply _ _ _ _ ?_
  rw [Shape.rowMajor_val_four, Shape.rowMajor_val_two]
  show ((b.val * 1 + 0) * 4 + h.val) * 64 + d.val = (4 * b.val + h.val) * 64 + d.val
  omega

/-- Cached codes, likewise. -/
theorem splitCodes (x : S128x4096x4x64.Idx → BitVec 8) (ht : S128x4096x4x64.Transposes [0, 2, 1, 3] S128x4x4096x64)
    (hs : S128x4x4096x64.ShapeCasts S512x4096x64) (b : Fin 128) (h : Fin 4) (t : Fin 4096) (d : Fin 64) :
    shapeCast S512x4096x64 (transpose S128x4x4096x64 [0, 2, 1, 3] x ht) hs (ix3 (rowOf b h) t d) = x (ix4 b t h d) := by
  refine (shapeCast_apply _ _ _ (ix4 b h t d) ?_).trans ?_
  · rw [Shape.rowMajor_val_four, Shape.rowMajor_val_three]
    show ((b.val * 4 + h.val) * 4096 + t.val) * 64 + d.val = ((4 * b.val + h.val) * 4096 + t.val) * 64 + d.val
    omega
  · exact transpose_apply _ _ _ _ _ (fun a => by match a with | ⟨0, _⟩ => rfl | ⟨1, _⟩ => rfl | ⟨2, _⟩ => rfl | ⟨3, _⟩ => rfl)

/-- Cached scales, likewise. -/
theorem splitScales (x : S128x4096x4.Idx → EReal) (ht : S128x4096x4.Transposes [0, 2, 1] S128x4x4096)
    (hs : S128x4x4096.ShapeCasts S512x4096) (b : Fin 128) (h : Fin 4) (t : Fin 4096) :
    shapeCast S512x4096 (transpose S128x4x4096 [0, 2, 1] x ht) hs (ix2 (rowOf b h) t) = x (ix3 b t h) := by
  refine (shapeCast_apply _ _ _ (ix3 b h t) ?_).trans ?_
  · rw [Shape.rowMajor_val_three, Shape.rowMajor_val_two]
    show (b.val * 4 + h.val) * 4096 + t.val = (4 * b.val + h.val) * 4096 + t.val
    omega
  · exact transpose_apply _ _ _ _ _ (fun a => by match a with | ⟨0, _⟩ => rfl | ⟨1, _⟩ => rfl | ⟨2, _⟩ => rfl)

theorem in0 (b : Fin 128) (h g : Fin 4) (d : Fin 64) :
    (V m c main_v0 : Vec Ideal S512x4x64 .bf16) (ix3 (rowOf b h) g d) = query (m ((c : Thread nD τ).loc main_arg0)) b h g d := by
  entry_read
  refine shapeCast_apply _ _ _ (ix3 b (0 : Fin 1) (⟨(4 * h.val + g.val) * 64 + d.val, by omega⟩ : Fin 1024)) ?_
  refine (Shape.rowMajor_val_three _).trans (Eq.trans ?_ (Shape.rowMajor_val_three _).symm)
  show (b.val * 1 + 0) * 1024 + ((4 * h.val + g.val) * 64 + d.val) = ((4 * b.val + h.val) * 4 + g.val) * 64 + d.val
  omega

theorem in1 (b : Fin 128) (h : Fin 4) (d : Fin 64) :
    (V m c main_v1 : Vec Ideal S512x64 .bf16) (ix2 (rowOf b h) d) = m ((c : Thread nD τ).loc main_arg1) (ix4 b (0 : Fin 1) h d) := by
  entry_read
  exact split4 _ _ b h d

theorem in2 (b : Fin 128) (h : Fin 4) (d : Fin 64) :
    (V m c main_v2 : Vec Ideal S512x64 .bf16) (ix2 (rowOf b h) d) = m ((c : Thread nD τ).loc main_arg2) (ix4 b (0 : Fin 1) h d) := by
  entry_read
  exact split4 _ _ b h d

theorem in3 (b : Fin 128) (h : Fin 4) (t : Fin 4096) (d : Fin 64) :
    (V m c main_v4 : Vec Ideal S512x4096x64 .i8) (ix3 (rowOf b h) t d) = m ((c : Thread nD τ).loc main_arg3) (ix4 b t h d) := by
  entry_read
  exact splitCodes _ _ _ b h t d

theorem in5 (b : Fin 128) (h : Fin 4) (t : Fin 4096) (d : Fin 64) :
    (V m c main_v8 : Vec Ideal S512x4096x64 .i8) (ix3 (rowOf b h) t d) = m ((c : Thread nD τ).loc main_arg5) (ix4 b t h d) := by
  entry_read
  exact splitCodes _ _ _ b h t d

theorem in4 (b : Fin 128) (h : Fin 4) (t : Fin 4096) :
    (V m c main_v6 : Vec Ideal S512x4096 .f32) (ix2 (rowOf b h) t) = m ((c : Thread nD τ).loc main_arg4) (ix3 b t h) := by
  entry_read
  exact splitScales _ _ _ b h t

theorem in6 (b : Fin 128) (h : Fin 4) (t : Fin 4096) :
    (V m c main_v10 : Vec Ideal S512x4096 .f32) (ix2 (rowOf b h) t) = m ((c : Thread nD τ).loc main_arg6) (ix3 b t h) := by
  entry_read
  exact splitScales _ _ _ b h t

/-! ## The launch's blocks are its whole arrays -/

theorem idx : ∀ t : Fin cfg0.N, win0_0.index t = ![0, 0, 0] ∧ win0_1.index t = ![0, 0] ∧ win0_2.index t = ![0, 0] ∧ win0_3.index t = ![0, 0, 0]
    ∧ win0_4.index t = ![0, 0] ∧ win0_5.index t = ![0, 0, 0] ∧ win0_6.index t = ![0, 0] :=
  (by decide +kernel : ∀ t : Fin grid0.N, _)

theorem block0 (t : Fin cfg0.N) : (iblk m c 0 t : Vec Ideal S512x4x64 .bf16) = V m c main_v0 := by funext j; blk_ext [iblk, idx t]
theorem block1 (t : Fin cfg0.N) : (iblk m c 1 t : Vec Ideal S512x64 .bf16) = V m c main_v1 := by funext j; blk_ext [iblk, idx t]
theorem block2 (t : Fin cfg0.N) : (iblk m c 2 t : Vec Ideal S512x64 .bf16) = V m c main_v2 := by funext j; blk_ext [iblk, idx t]
theorem block3 (t : Fin cfg0.N) : (iblk m c 3 t : Vec Ideal S512x4096x64 .i8) = V m c main_v4 := by funext j; blk_ext [iblk, idx t]
theorem block4 (t : Fin cfg0.N) : (iblk m c 4 t : Vec Ideal S512x4096 .f32) = V m c main_v6 := by funext j; blk_ext [iblk, idx t]
theorem block5 (t : Fin cfg0.N) : (iblk m c 5 t : Vec Ideal S512x4096x64 .i8) = V m c main_v8 := by funext j; blk_ext [iblk, idx t]
theorem block6 (t : Fin cfg0.N) : (iblk m c 6 t : Vec Ideal S512x4096 .f32) = V m c main_v10 := by funext j; blk_ext [iblk, idx t]

/-! ## The results -/

theorem final7 : (dats m 0 c).arrAt 7 cfg0.N = k0_pay1 (k0_pay12 (k0_pay3 (V m c main_v1 : Vec Ideal S512x64 .bf16)) (k0_pay4 (V m c main_v1 : Vec Ideal S512x64 .bf16)) (V m c main_v4 : Vec Ideal S512x4096x64 .i8) (V m c main_v6 : Vec Ideal S512x4096 .f32))
    (k0_pay13 (V m c main_v8 : Vec Ideal S512x4096x64 .i8) (V m c main_v10 : Vec Ideal S512x4096 .f32)) (k0_pay14 (k0_pay7 (V m c main_v2 : Vec Ideal S512x64 .bf16))) (k0_pay15 (k0_pay6 (V m c main_v2 : Vec Ideal S512x64 .bf16))) (V m c main_v0 : Vec Ideal S512x4x64 .bf16) := by
  refine (dats m 0 c).arrAt_eq_of_after_last 7 t0_0 (by decide +kernel) _ fun j => ?_
  blk_simp
  rw [after0_7]
  unfold_out out0_7
  frame_out
  rw [block0, block1, block2, block3, block4, block5, block6]

theorem final8 : (dats m 0 c).arrAt 8 cfg0.N = k0_pay8 (V m c main_v1 : Vec Ideal S512x64 .bf16) := by
  refine (dats m 0 c).arrAt_eq_of_after_last 8 t0_0 (by decide +kernel) _ fun j => ?_
  blk_simp
  rw [after0_8]
  frame_out
  rw [block1]

theorem final9 : (dats m 0 c).arrAt 9 cfg0.N = k0_pay9 (k0_pay3 (V m c main_v1 : Vec Ideal S512x64 .bf16)) := by
  refine (dats m 0 c).arrAt_eq_of_after_last 9 t0_0 (by decide +kernel) _ fun j => ?_
  blk_simp
  rw [after0_9]
  unfold_out out0_9
  frame_out
  rw [block1]

theorem final10 : (dats m 0 c).arrAt 10 cfg0.N = k0_pay10 (k0_pay7 (V m c main_v2 : Vec Ideal S512x64 .bf16)) := by
  refine (dats m 0 c).arrAt_eq_of_after_last 10 t0_0 (by decide +kernel) _ fun j => ?_
  blk_simp
  rw [after0_10]
  unfold_out out0_10
  frame_out
  rw [block2]

theorem final11 : (dats m 0 c).arrAt 11 cfg0.N = k0_pay11 (k0_pay6 (V m c main_v2 : Vec Ideal S512x64 .bf16)) := by
  refine (dats m 0 c).arrAt_eq_of_after_last 11 t0_0 (by decide +kernel) _ fun j => ?_
  blk_simp
  rw [after0_11]
  unfold_out out0_11
  frame_out
  rw [block2]

theorem scale1 (h : Fin 4) (b : Fin 128) :
    (scaleOf fun d => (V m c main_v1 : Vec Ideal S512x64 .bf16) (ix2 (rowOf b h) d)) = newScale (m ((c : Thread nD τ).loc main_arg1)) h b :=
  congrArg scaleOf (funext fun d => in1 m c b h d)

theorem code1 (h : Fin 4) (d : Fin 64) (b : Fin 128) :
    codeOf ((V m c main_v1 : Vec Ideal S512x64 .bf16) (ix2 (rowOf b h) d)) (scaleOf fun d => (V m c main_v1 : Vec Ideal S512x64 .bf16) (ix2 (rowOf b h) d))
      = newCode (m ((c : Thread nD τ).loc main_arg1)) h d b :=
  congrArg₂ codeOf (in1 m c b h d) (scale1 m c h b)

theorem scale2 (h : Fin 4) (b : Fin 128) :
    (scaleOf fun d => (V m c main_v2 : Vec Ideal S512x64 .bf16) (ix2 (rowOf b h) d)) = newScale (m ((c : Thread nD τ).loc main_arg2)) h b :=
  congrArg scaleOf (funext fun d => in2 m c b h d)

theorem code2 (h : Fin 4) (d : Fin 64) (b : Fin 128) :
    codeOf ((V m c main_v2 : Vec Ideal S512x64 .bf16) (ix2 (rowOf b h) d)) (scaleOf fun d => (V m c main_v2 : Vec Ideal S512x64 .bf16) (ix2 (rowOf b h) d))
      = newCode (m ((c : Thread nD τ).loc main_arg2)) h d b :=
  congrArg₂ codeOf (in2 m c b h d) (scale2 m c h b)

theorem value7 (b : Fin 128) (h g : Fin 4) (e : Fin 64) :
    (dats m 0 c).arrAt 7 cfg0.N (ix3 b (0 : Fin 1) (⟨(4 * h.val + g.val) * 64 + e.val, by omega⟩ : Fin 1024))
      = answer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g e := by
  rw [final7]
  refine (out_apply _ _ _ _ _ _ _ b h g e).trans ?_
  exact congr (congr (congr (congrArg attend (funext fun t => congrArg₂ score (funext fun d => in0 m c b h g d)
      (funext fun d => congrArg₂ (fun u w => ofCode u * w) (in3 m c b h t d) (in4 m c b h t))))
    (congrArg₂ score (funext fun d => in0 m c b h g d) (funext fun d => congrArg₂ (fun u w => ofCode u * w) (code1 m c h d b) (scale1 m c h b))))
    (funext fun t => congrArg₂ (fun u w => ofCode u * w) (in5 m c b h t e) (in6 m c b h t)))
    (congrArg₂ (fun u w => ofCode u * w) (code2 m c h e b) (scale2 m c h b))

theorem value8 (h : Fin 4) (d : Fin 64) (b : Fin 128) :
    (dats m 0 c).arrAt 8 cfg0.N (ix4 b (0 : Fin 1) h d) = newCode (m ((c : Thread nD τ).loc main_arg1)) h d b := by
  rw [final8]
  exact (storedCode_apply _ h d b).trans (code1 m c h d b)

theorem value9 (h : Fin 4) (b : Fin 128) :
    (dats m 0 c).arrAt 9 cfg0.N (ix3 b (0 : Fin 1) h) = newScale (m ((c : Thread nD τ).loc main_arg1)) h b := by
  rw [final9]
  exact (storedScale_apply _ h b).trans (scale1 m c h b)

theorem value10 (h : Fin 4) (d : Fin 64) (b : Fin 128) :
    (dats m 0 c).arrAt 10 cfg0.N (ix4 b (0 : Fin 1) h d) = newCode (m ((c : Thread nD τ).loc main_arg2)) h d b := by
  rw [final10]
  exact (storedCode_apply _ h d b).trans (code2 m c h d b)

theorem value11 (h : Fin 4) (b : Fin 128) :
    (dats m 0 c).arrAt 11 cfg0.N (ix3 b (0 : Fin 1) h) = newScale (m ((c : Thread nD τ).loc main_arg2)) h b := by
  rw [final11]
  exact (storedScale_apply _ h b).trans (scale2 m c h b)

/-! ## The run -/

/-- After the run each result is the array above, and the arguments are as launched. -/
theorem run_blocks (ρ : Dev nD → PrngReg) : θ_run defs (onTc (τ := τ) (main (F := Ideal))) ⟨m, fun _ => 0, ρ⟩ fun r => ∀ c : Dev nD,
      r.2.mem ((c : Thread nD τ).loc main_v11_0) = (dats m 0 c).arrAt 7 cfg0.N
      ∧ r.2.mem ((c : Thread nD τ).loc main_v11_1) = (dats m 0 c).arrAt 8 cfg0.N
      ∧ r.2.mem ((c : Thread nD τ).loc main_v11_2) = (dats m 0 c).arrAt 9 cfg0.N
      ∧ r.2.mem ((c : Thread nD τ).loc main_v11_3) = (dats m 0 c).arrAt 10 cfg0.N
      ∧ r.2.mem ((c : Thread nD τ).loc main_v11_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      (h c).1 8,
      (h c).1 9,
      (h c).1 10,
      (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.ReferenceIdeal.Value

end
-- ==== Proof.Value.Equation.lean ====
/- From equal arguments the kernel and the reference end with equal results. -/
module

public import proofs.«01_k».proof.Proof.Value.KernelResults
public import proofs.«01_k».proof.Proof.Value.ReferenceArrays

@[expose] public section

noncomputable section

namespace Cert.Value

open Idealize.ShloMosaic.ValueIdx Idealize.ShloMosaic.TcCoe Idealize.SL.Sem
open Idealize.ShloMosaic hiding ix1 ix2 ix3 ix4

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- An index of the attention: sequence, key head, query of the head, element. -/
theorem index_answer (j : (⟨3, ![128, 1, 1024]⟩ : Shape).Idx) :
    ∃ (b : Fin 128) (h g : Fin 4) (e : Fin 64), j = ix3 b (0 : Fin 1) (⟨(4 * h.val + g.val) * 64 + e.val, by omega⟩ : Fin 1024) := by
  have h1024 : (j 2).val < 1024 := (j 2).isLt
  refine ⟨j 0, ⟨(j 2).val / 256, by omega⟩, ⟨(j 2).val / 64 % 4, by omega⟩, ⟨(j 2).val % 64, by omega⟩, funext fun a => ?_⟩
  match a with
  | ⟨0, _⟩ => rfl
  | ⟨1, _⟩ => exact Subsingleton.elim (α := Fin 1) _ _
  | ⟨2, _⟩ => exact Fin.ext (show (j 2).val = (4 * ((j 2).val / 256) + (j 2).val / 64 % 4) * 64 + (j 2).val % 64 by omega)

theorem index_code (j : (⟨4, ![128, 1, 4, 64]⟩ : Shape).Idx) : ∃ (b : Fin 128) (h : Fin 4) (d : Fin 64), j = ix4 b (0 : Fin 1) h d :=
  ⟨j 0, j 2, j 3, funext fun a => by
    match a with | ⟨0, _⟩ => rfl | ⟨1, _⟩ => exact Subsingleton.elim (α := Fin 1) _ _ | ⟨2, _⟩ => rfl | ⟨3, _⟩ => rfl⟩

theorem index_scale (j : (⟨3, ![128, 1, 4]⟩ : Shape).Idx) : ∃ (b : Fin 128) (h : Fin 4), j = ix3 b (0 : Fin 1) h :=
  ⟨j 0, j 2, funext fun a => by match a with | ⟨0, _⟩ => rfl | ⟨1, _⟩ => exact Subsingleton.elim (α := Fin 1) _ _ | ⟨2, _⟩ => rfl⟩

/-- The two launches have equal arguments. -/
def SameArgs : Prop :=
  m' ((c : Thread ReferenceIdeal.nD ReferenceIdeal.τ).loc ReferenceIdeal.main_arg0) = m ((c : Thread KernelIdeal.nD KernelIdeal.τ).loc KernelIdeal.main_arg0)
  ∧ m' ((c : Thread ReferenceIdeal.nD ReferenceIdeal.τ).loc ReferenceIdeal.main_arg1) = m ((c : Thread KernelIdeal.nD KernelIdeal.τ).loc KernelIdeal.main_arg1)
  ∧ m' ((c : Thread ReferenceIdeal.nD ReferenceIdeal.τ).loc ReferenceIdeal.main_arg2) = m ((c : Thread KernelIdeal.nD KernelIdeal.τ).loc KernelIdeal.main_arg2)
  ∧ m' ((c : Thread ReferenceIdeal.nD ReferenceIdeal.τ).loc ReferenceIdeal.main_arg3) = m ((c : Thread KernelIdeal.nD KernelIdeal.τ).loc KernelIdeal.main_arg3)
  ∧ m' ((c : Thread ReferenceIdeal.nD ReferenceIdeal.τ).loc ReferenceIdeal.main_arg4) = m ((c : Thread KernelIdeal.nD KernelIdeal.τ).loc KernelIdeal.main_arg4)
  ∧ m' ((c : Thread ReferenceIdeal.nD ReferenceIdeal.τ).loc ReferenceIdeal.main_arg5) = m ((c : Thread KernelIdeal.nD KernelIdeal.τ).loc KernelIdeal.main_arg5)
  ∧ m' ((c : Thread ReferenceIdeal.nD ReferenceIdeal.τ).loc ReferenceIdeal.main_arg6) = m ((c : Thread KernelIdeal.nD KernelIdeal.τ).loc KernelIdeal.main_arg6)

variable (same : SameArgs m m' c)
include same

/-- The attention of all query heads. -/
theorem equal7 : ((ReferenceIdeal.Gen.dats m' 0 c).arrAt 7 ReferenceIdeal.cfg0.N : Vec Ideal ⟨3, ![128, 1, 1024]⟩ .bf16)
    = KernelIdeal.Value.atEnd m c KernelIdeal.main_v10 := by
  obtain ⟨h0, h1, h2, h3, h4, h5, h6⟩ := same
  funext j
  obtain ⟨b, h, g, e, rfl⟩ := index_answer j
  refine (ReferenceIdeal.Value.value7 m' c b h g e).trans (Eq.trans ?_ (KernelIdeal.Value.result7 m c b h g e).symm)
  rw [h0, h1, h2, h3, h4, h5, h6]

/-- The codes of the new keys. -/
theorem equal8 : ((ReferenceIdeal.Gen.dats m' 0 c).arrAt 8 ReferenceIdeal.cfg0.N : Vec Ideal ⟨4, ![128, 1, 4, 64]⟩ .i8)
    = KernelIdeal.Value.atEnd m c KernelIdeal.main_v12 := by
  obtain ⟨_, h1, _⟩ := same
  funext j
  obtain ⟨b, h, d, rfl⟩ := index_code j
  refine (ReferenceIdeal.Value.value8 m' c h d b).trans (Eq.trans ?_ (KernelIdeal.Value.result8 m c b h d).symm)
  rw [h1]

/-- Their scales. -/
theorem equal9 : ((ReferenceIdeal.Gen.dats m' 0 c).arrAt 9 ReferenceIdeal.cfg0.N : Vec Ideal ⟨3, ![128, 1, 4]⟩ .f32)
    = KernelIdeal.Value.atEnd m c KernelIdeal.main_v14 := by
  obtain ⟨_, h1, _⟩ := same
  funext j
  obtain ⟨b, h, rfl⟩ := index_scale j
  refine (ReferenceIdeal.Value.value9 m' c h b).trans (Eq.trans ?_ (KernelIdeal.Value.result9 m c b h).symm)
  rw [h1]

/-- The codes of the new values. -/
theorem equal10 : ((ReferenceIdeal.Gen.dats m' 0 c).arrAt 10 ReferenceIdeal.cfg0.N : Vec Ideal ⟨4, ![128, 1, 4, 64]⟩ .i8)
    = KernelIdeal.Value.atEnd m c KernelIdeal.main_v16 := by
  obtain ⟨_, _, h2, _⟩ := same
  funext j
  obtain ⟨b, h, d, rfl⟩ := index_code j
  refine (ReferenceIdeal.Value.value10 m' c h d b).trans (Eq.trans ?_ (KernelIdeal.Value.result10 m c b h d).symm)
  rw [h2]

/-- Their scales. -/
theorem equal11 : ((ReferenceIdeal.Gen.dats m' 0 c).arrAt 11 ReferenceIdeal.cfg0.N : Vec Ideal ⟨3, ![128, 1, 4]⟩ .f32)
    = KernelIdeal.Value.atEnd m c KernelIdeal.main_v18 := by
  obtain ⟨_, _, h2, _⟩ := same
  funext j
  obtain ⟨b, h, rfl⟩ := index_scale j
  refine (ReferenceIdeal.Value.value11 m' c h b).trans (Eq.trans ?_ (KernelIdeal.Value.result11 m c b h).symm)
  rw [h2]

end Cert.Value

end
-- ==== Proof.lean ====
/- The claims assembled: the frame of the kernel as printed, the frame of the kernel over the extended reals, the frame of the
   reference, that the two readings of the kernel are one text, and that over the extended reals kernel and reference give equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Body.Run
public import proofs.«01_k».proof.Proof.Body.Same
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- From equal arguments the kernel and the reference run, keep their arguments and end with the same five arrays. -/
theorem algebraic : Cert.algebraic_KernelIdeal_ReferenceIdeal (hKernelIdeal := Cert.KernelIdeal.Gen.facts) (hReferenceIdeal := Cert.ReferenceIdeal.Gen.facts) :=
  fun m g m' g' _ same =>
    ⟨fun c => Cert.KernelIdeal.Value.atEnd m c Cert.KernelIdeal.main_v10,
      fun c => Cert.KernelIdeal.Value.atEnd m c Cert.KernelIdeal.main_v12,
      fun c => Cert.KernelIdeal.Value.atEnd m c Cert.KernelIdeal.main_v14,
      fun c => Cert.KernelIdeal.Value.atEnd m c Cert.KernelIdeal.main_v16,
      fun c => Cert.KernelIdeal.Value.atEnd m c Cert.KernelIdeal.main_v18,
      Cert.KernelIdeal.Value.run_results m g,
      (θ_run Cert.ReferenceIdeal.defs _ _).mono (fun _ h c =>
        ⟨(h c).1.trans (Cert.Value.equal7 m m' c (same c)),
          (h c).2.1.trans (Cert.Value.equal8 m m' c (same c)),
          (h c).2.2.1.trans (Cert.Value.equal9 m m' c (same c)),
          (h c).2.2.2.1.trans (Cert.Value.equal10 m m' c (same c)),
          (h c).2.2.2.2.1.trans (Cert.Value.equal11 m m' c (same c)),
          (h c).2.2.2.2.2⟩)
        (Cert.ReferenceIdeal.Value.run_blocks m' g')⟩

theorem claim : Cert.Claim := ⟨Cert.Kernel.Gen.facts, Cert.KernelIdeal.Gen.facts, Cert.ReferenceIdeal.Gen.facts,
  Cert.KernelIdeal.Body.frame_printed,
  fun m ρ _ => Cert.KernelIdeal.Body.frame m ρ,
  fun m ρ _ => Cert.ReferenceIdeal.Gen.frame m ρ,
  trivial,
  algebraic⟩

end Cert.Proof

end
